-- ==== Defs.lean ====
def Pre_Kernel [hPre_offsets_in_range : Cert.Pre_offsets_in_range.Facts] (m : (ℓ : Loc Cert.Kernel.nD Cert.Kernel.τ Cert.Kernel.sig) → Buf (Elt Bits) ℓ) : Prop :=
  ∀ c : Dev Cert.Kernel.nD,
    (Cert.Pre_offsets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_offsets_in_range : Cert.Pre_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_rays [hPre_rays : Cert.Pre_rays.Facts] (m : (ℓ : Loc Cert.KernelIdeal.nD Cert.KernelIdeal.τ Cert.KernelIdeal.sig) → Buf (Elt Ideal) ℓ) : Prop :=
  ∀ c : Dev Cert.KernelIdeal.nD,
    (Cert.Pre_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rays [hPre_rays : Cert.Pre_rays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_offsets_in_range : Cert.Pre_offsets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rays [hKernelIdeal : Cert.KernelIdeal.Facts] [hPre_rays : Cert.Pre_rays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rays m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rays [hReferenceIdeal : Cert.ReferenceIdeal.Facts] [hPre_rays : Cert.Pre_rays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_rays [hKernelIdeal : Cert.KernelIdeal.Facts] [hReferenceIdeal : Cert.ReferenceIdeal.Facts] [hPre_rays : Cert.Pre_rays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_offsets_in_range : Cert.Pre_offsets_in_range.Facts) (hPre_rays : Cert.Pre_rays.Facts),
    quiescent_Kernel (hKernel := hKernel) (hPre_offsets_in_range := hPre_offsets_in_range)
    ∧ quiescent_KernelIdeal (hKernelIdeal := hKernelIdeal) (hPre_offsets_in_range := hPre_offsets_in_range)
    ∧ quiescent_KernelIdeal_pre_rays (hKernelIdeal := hKernelIdeal) (hPre_rays := hPre_rays)
    ∧ quiescent_ReferenceIdeal (hReferenceIdeal := hReferenceIdeal)
    ∧ quiescent_ReferenceIdeal_pre_rays (hReferenceIdeal := hReferenceIdeal) (hPre_rays := hPre_rays)
    ∧ preserves_Kernel_KernelIdeal
    ∧ algebraic_KernelIdeal_ReferenceIdeal_pre_rays (hKernelIdeal := hKernelIdeal) (hReferenceIdeal := hReferenceIdeal) (hPre_rays := hPre_rays)
-- ==== Pre_offsets_in_range.lean ====
abbrev S262144x3 : Shape := ⟨2, ![262144, 3]⟩
abbrev S262144x1 : Shape := ⟨2, ![262144, 1]⟩
abbrev S8193 : Shape := ⟨1, ![8193]⟩
abbrev S_ : Shape := ⟨0, ![]⟩

class Facts : Prop where
  bcast_S_S8193 : S_.BroadcastsInDim S8193 (![] : Fin 0 → Fin S8193.rank)

variable [Facts]

def fn {F : FTy → Type} [FloatOps F] (main_arg0 : FVec F S262144x3 .f32) (main_arg1 : FVec F S262144x1 .f32) (main_arg2 : IVec S8193 32) : IVec S8193 1 :=
  let main_c : IVec S_ 32 := constantI S_ 32 0#32
  let main_v0 : IVec S8193 32 := broadcastInDim S8193 ![] bcast_S_S8193 main_c
  let main_v1 : IVec S8193 1 := cmpi .sge main_arg2 main_v0
  let main_c_0 : IVec S_ 32 := constantI S_ 32 262144#32
  let main_v2 : IVec S8193 32 := broadcastInDim S8193 ![] bcast_S_S8193 main_c_0
  let main_v3 : IVec S8193 1 := cmpi .sle main_arg2 main_v2
  let main_v4 : IVec S8193 1 := andi main_v1 main_v3
  main_v4
-- ==== Pre_rays.lean ====
abbrev S262144x3 : Shape := ⟨2, ![262144, 3]⟩
abbrev S262144x1 : Shape := ⟨2, ![262144, 1]⟩
abbrev S8193 : Shape := ⟨1, ![8193]⟩
abbrev S1 : Shape := ⟨1, ![1]⟩
abbrev S_ : Shape := ⟨0, ![]⟩
abbrev S8192 : Shape := ⟨1, ![8192]⟩

class Facts : Prop where
  slices_S8193_S1_0 : S8193.Slices ![0] S1
  shapeCasts_S1_S_ : S1.ShapeCasts S_
  slices_S8193_S8192_0 : S8193.Slices ![0] S8192
  slices_S8193_S8192_1 : S8193.Slices ![1] S8192
  reducesTo_S8192_S_d0 : S8192.ReducesTo [0] S_
  h_S_ : 0 < S_.numel
  bcast_S_S8193 : S_.BroadcastsInDim S8193 (![] : Fin 0 → Fin S8193.rank)
  reducesTo_S8193_S_d0 : S8193.ReducesTo [0] S_
  bcast_S_S262144x3 : S_.BroadcastsInDim S262144x3 (![] : Fin 0 → Fin S262144x3.rank)
  reducesTo_S262144x3_S_d0_1 : S262144x3.ReducesTo [0, 1] S_
  bcast_S_S262144x1 : S_.BroadcastsInDim S262144x1 (![] : Fin 0 → Fin S262144x1.rank)
  reducesTo_S262144x1_S_d0_1 : S262144x1.ReducesTo [0, 1] S_

variable [Facts]

def fn_part1 {F : FTy → Type} [FloatOps F] (main_arg1 : FVec F S262144x1 .f32) (main_v15 : IVec S_ 1) (main_v16 : FVec F S262144x3 .f32) (main_cst : FVec F S_ .f32) : IVec S_ 1 :=
  let main_v17 : FVec F S262144x3 .f32 := broadcastInDim S262144x3 ![] bcast_S_S262144x3 main_cst
  let main_v18 : IVec S262144x3 1 := cmpf .olt main_v16 main_v17
  let main_c_5 : IVec S_ 1 := constantI S_ 1 1#1
  let main_v19 : IVec S_ 1 := (fun x v => Host.reduce IntOp.andi x v reducesTo_S262144x3_S_d0_1 h_S_) main_v18 main_c_5
  let main_v20 : IVec S_ 1 := andi main_v15 main_v19
  let main_v21 : FVec F S262144x1 .f32 := Host.absf main_arg1
  let main_cst_6 : FVec F S_ .f32 := constant S_ .f32 0x7F800000#32
  let main_v22 : FVec F S262144x1 .f32 := broadcastInDim S262144x1 ![] bcast_S_S262144x1 main_cst_6
  let main_v23 : IVec S262144x1 1 := cmpf .olt main_v21 main_v22
  let main_c_7 : IVec S_ 1 := constantI S_ 1 1#1
  let main_v24 : IVec S_ 1 := (fun x v => Host.reduce IntOp.andi x v reducesTo_S262144x1_S_d0_1 h_S_) main_v23 main_c_7
  let main_v25 : IVec S_ 1 := andi main_v20 main_v24
  main_v25

def fn {F : FTy → Type} [FloatOps F] (main_arg0 : FVec F S262144x3 .f32) (main_arg1 : FVec F S262144x1 .f32) (main_arg2 : IVec S8193 32) : IVec S_ 1 :=
  let main_v0 : IVec S1 32 := (extractStridedSlice S1 ![0] · slices_S8193_S1_0) main_arg2
  let main_v1 : IVec S_ 32 := shapeCast S_ main_v0 shapeCasts_S1_S_
  let main_c : IVec S_ 32 := constantI S_ 32 0#32
  let main_v2 : IVec S_ 1 := cmpi .eq main_v1 main_c
  let main_v3 : IVec S8192 32 := (extractStridedSlice S8192 ![0] · slices_S8193_S8192_0) main_arg2
  let main_v4 : IVec S8192 32 := (extractStridedSlice S8192 ![1] · slices_S8193_S8192_1) main_arg2
  let main_v5 : IVec S8192 1 := cmpi .sle main_v3 main_v4
  let main_c_0 : IVec S_ 1 := constantI S_ 1 1#1
  let main_v6 : IVec S_ 1 := (fun x v => Host.reduce IntOp.andi x v reducesTo_S8192_S_d0 h_S_) main_v5 main_c_0
  let main_v7 : IVec S_ 1 := andi main_v2 main_v6
  let main_c_1 : IVec S_ 32 := constantI S_ 32 0#32
  let main_v8 : IVec S8193 32 := broadcastInDim S8193 ![] bcast_S_S8193 main_c_1
  let main_v9 : IVec S8193 1 := cmpi .sge main_arg2 main_v8
  let main_c_2 : IVec S_ 1 := constantI S_ 1 1#1
  let main_v10 : IVec S_ 1 := (fun x v => Host.reduce IntOp.andi x v reducesTo_S8193_S_d0 h_S_) main_v9 main_c_2
  let main_v11 : IVec S_ 1 := andi main_v7 main_v10
  let main_c_3 : IVec S_ 32 := constantI S_ 32 262144#32
  let main_v12 : IVec S8193 32 := broadcastInDim S8193 ![] bcast_S_S8193 main_c_3
  let main_v13 : IVec S8193 1 := cmpi .sle main_arg2 main_v12
  let main_c_4 : IVec S_ 1 := constantI S_ 1 1#1
  let main_v14 : IVec S_ 1 := (fun x v => Host.reduce IntOp.andi x v reducesTo_S8193_S_d0 h_S_) main_v13 main_c_4
  let main_v15 : IVec S_ 1 := andi main_v11 main_v14
  let main_v16 : FVec F S262144x3 .f32 := Host.absf main_arg0
  let main_cst : FVec F S_ .f32 := constant S_ .f32 0x7F800000#32
  fn_part1 (F := F) main_arg1 main_v15 main_v16 main_cst
-- ==== Kernel.lean ====
abbrev S262144x3 : Shape := ⟨2, ![262144, 3]⟩
abbrev S262144x1 : Shape := ⟨2, ![262144, 1]⟩
abbrev S8193 : Shape := ⟨1, ![8193]⟩
abbrev S3x262144 : Shape := ⟨2, ![3, 262144]⟩
abbrev S3x2048x128 : Shape := ⟨3, ![3, 2048, 128]⟩
abbrev S2048x128 : Shape := ⟨2, ![2048, 128]⟩
abbrev S3x256x128 : Shape := ⟨3, ![3, 256, 128]⟩
abbrev S256x128 : Shape := ⟨2, ![256, 128]⟩
abbrev S3 : Shape := ⟨1, ![3]⟩
abbrev S1 : Shape := ⟨1, ![1]⟩
abbrev S128x128 : Shape := ⟨2, ![128, 128]⟩
abbrev S256x256 : Shape := ⟨2, ![256, 256]⟩
abbrev S1x256x128 : Shape := ⟨3, ![1, 256, 128]⟩
abbrev S768x128 : Shape := ⟨2, ![768, 128]⟩
abbrev S768x1 : Shape := ⟨2, ![768, 1]⟩
abbrev S256x1 : Shape := ⟨2, ![256, 1]⟩
abbrev S256x3 : Shape := ⟨2, ![256, 3]⟩
abbrev S1x256x1 : Shape := ⟨3, ![1, 256, 1]⟩
abbrev S1x1x1 : Shape := ⟨3, ![1, 1, 1]⟩
abbrev S_ : Shape := ⟨0, ![]⟩
abbrev S271 : Shape := ⟨1, ![271]⟩
abbrev S8464 : Shape := ⟨1, ![8464]⟩
abbrev S786432 : Shape := ⟨1, ![786432]⟩
abbrev S8192 : Shape := ⟨1, ![8192]⟩
abbrev S272 : Shape := ⟨1, ![272]⟩
abbrev S816 : Shape := ⟨1, ![816]⟩
abbrev S256 : Shape := ⟨1, ![256]⟩
abbrev S16 : Shape := ⟨1, ![16]⟩
abbrev S8192x1 : Shape := ⟨2, ![8192, 1]⟩
abbrev S8192x3 : Shape := ⟨2, ![8192, 3]⟩

abbrev nBuf : Table → Nat
  | .hbm => 18
  | .local .tc .vmem => 6
  | .local .tc .smem => 1
  | .local .scVector .vmem => 5
  | _ => 0

abbrev bufTy : (tb : Table) → Fin (nBuf tb) → BufTy
  | .hbm, ⟨0, _⟩ => ⟨S262144x3, .f32⟩
  | .hbm, ⟨1, _⟩ => ⟨S262144x1, .f32⟩
  | .hbm, ⟨2, _⟩ => ⟨S8193, .i32⟩
  | .hbm, ⟨3, _⟩ => ⟨S3x262144, .f32⟩
  | .hbm, ⟨4, _⟩ => ⟨S3x2048x128, .f32⟩
  | .hbm, ⟨5, _⟩ => ⟨S2048x128, .f32⟩
  | .hbm, ⟨6, _⟩ => ⟨S3x2048x128, .f32⟩
  | .hbm, ⟨7, _⟩ => ⟨S_, .i32⟩
  | .hbm, ⟨8, _⟩ => ⟨S271, .i32⟩
  | .hbm, ⟨9, _⟩ => ⟨S8464, .i32⟩
  | .hbm, ⟨10, _⟩ => ⟨S786432, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x3, .f32⟩
  | .local .tc .vmem, ⟨0, _⟩ => ⟨S3x256x128, .f32⟩
  | .local .tc .vmem, ⟨1, _⟩ => ⟨S3x256x128, .f32⟩
  | .local .tc .vmem, ⟨2, _⟩ => ⟨S256x128, .f32⟩
  | .local .tc .vmem, ⟨3, _⟩ => ⟨S256x128, .f32⟩
  | .local .tc .vmem, ⟨4, _⟩ => ⟨S3x256x128, .f32⟩
  | .local .tc .vmem, ⟨5, _⟩ => ⟨S3x256x128, .f32⟩
  | .local .tc .smem, ⟨0, _⟩ => ⟨S3, .f32⟩
  | .local .scVector .vmem, ⟨0, _⟩ => ⟨S272, .i32⟩
  | .local .scVector .vmem, ⟨1, _⟩ => ⟨S816, .i32⟩
  | .local .scVector .vmem, ⟨2, _⟩ => ⟨S272, .f32⟩
  | .local .scVector .vmem, ⟨3, _⟩ => ⟨S816, .f32⟩
  | .local .scVector .vmem, ⟨4, _⟩ => ⟨S256, .f32⟩
  | _, _ => ⟨S262144x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v6_scv : Ref sig .scVector := ⟨.hbm, 10, rfl⟩
abbrev main_v5_scv : Ref sig .scVector := ⟨.hbm, 9, rfl⟩
abbrev main_v7_0_scv : Ref sig .scVector := ⟨.hbm, 11, rfl⟩
abbrev main_v7_1_scv : Ref sig .scVector := ⟨.hbm, 12, rfl⟩
abbrev main_v7_2_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x3 : Shape := ⟨2, ![262144, 3]⟩
abbrev S262144x1 : Shape := ⟨2, ![262144, 1]⟩
abbrev S8193 : Shape := ⟨1, ![8193]⟩
abbrev S8192 : Shape := ⟨1, ![8192]⟩
abbrev S1x8192 : Shape := ⟨2, ![1, 8192]⟩
abbrev S262144 : Shape := ⟨1, ![262144]⟩
abbrev S262144x8192 : Shape := ⟨2, ![262144, 8192]⟩
abbrev S_ : Shape := ⟨0, ![]⟩
abbrev S8192x3 : Shape := ⟨2, ![8192, 3]⟩

abbrev nBuf : Space → Nat
  | .hbm => 19
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x1, .f32⟩
  | .hbm, ⟨2, _⟩ => ⟨S8193, .i32⟩
  | .hbm, ⟨3, _⟩ => ⟨S8192, .i32⟩
  | .hbm, ⟨4, _⟩ => ⟨S1x8192, .i32⟩
  | .hbm, ⟨5, _⟩ => ⟨S262144, .i32⟩
  | .hbm, ⟨6, _⟩ => ⟨S262144x1, .i32⟩
  | .hbm, ⟨7, _⟩ => ⟨S262144x8192, .i32⟩
  | .hbm, ⟨8, _⟩ => ⟨S262144x8192, .i32⟩
  | .hbm, ⟨9, _⟩ => ⟨S262144x8192, .i1⟩
  | .hbm, ⟨10, _⟩ => ⟨S262144x8192, .i32⟩
  | .hbm, ⟨11, _⟩ => ⟨S_, .i32⟩
  | .hbm, ⟨12, _⟩ => ⟨S262144, .i32⟩
  | .hbm, ⟨13, _⟩ => ⟨S262144x3, .f32⟩
  | .hbm, ⟨14, _⟩ => ⟨S262144x3, .f32⟩
  | .hbm, ⟨15, _⟩ => ⟨S_, .f32⟩
  | .hbm, ⟨16, _⟩ => ⟨S8192x3, .f32⟩
  | .hbm, ⟨17, _⟩ => ⟨S262144x1, .i32⟩
  | .hbm, ⟨18, _⟩ => ⟨S8192x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Setup.lean ====
/-
  The two custom calls of the kernel as the launch library sees them: the SparseCore configuration, the body table,
  the resource algebra (the handshakes of the SparseCore call, the staging cells of the TensorCore call, the counters of
  the transfers), and the locations of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the first half of the right component. -/
def EP {F : FTy → Type} : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP embR; infer_instance

/-! ## The arrays in HBM -/

abbrev vLoc (d : Dev nD) : Loc nD τ sig := (SparseCore.T d).loc main_arg0
abbrev wLoc (d : Dev nD) : Loc nD τ sig := (SparseCore.T d).loc main_arg1
abbrev cuLoc (d : Dev nD) : Loc nD τ sig := (SparseCore.T d).loc main_arg2
/-- The bounds padded to 8464 words. -/
abbrev nLoc (d : Dev nD) : Loc nD τ sig := (SparseCore.T d).loc main_v5
/-- The prefix sums, flat. -/
abbrev pLoc (d : Dev nD) : Loc nD τ sig := (SparseCore.T d).loc main_v6
abbrev aLoc (d : Dev nD) : Loc nD τ sig := (SparseCore.T d).loc main_v7_0
abbrev bLoc (d : Dev nD) : Loc nD τ sig := (SparseCore.T d).loc main_v7_1
abbrev eLoc (d : Dev nD) : Loc nD τ sig := (SparseCore.T d).loc main_v7_2
abbrev rLoc (d : Dev nD) : Loc nD τ sig := (SparseCore.T d).loc main_v11

end Cert.Proof.Seg

end
-- ==== Proof.Pieces.lean ====
/-
  What one SparseCore task computes, as pure functions: the index and the mask of each of its 272 bounds, the
  prefix sums the gather fetches at those indices, and the differences it stores. The task writes these arrays sixteen
  words at a time; here the pieces it writes are shown to be pieces of one closed form.
-/
module

public import proofs.«01_k».proof.Proof.Setup
public import Idealize.ShloMosaic.Lib.Writes
public import Idealize.ShloMosaic.Lib.Pipeline.ValueKit
public import Idealize.ShloMosaic.Lib.Pointwise.Elementwise
public import Idealize.ShloMosaic.Lib.Routing.Words

@[expose] public section

noncomputable section

namespace Cert.Proof.Seg

open Cert.KernelIdeal Cert.KernelIdeal.Gen

open Idealize.ShloMosaic

variable {F : FTy → Type} [FloatOps F]

/-! ## Indices of vectors -/

/-- Index `k` of a vector of `n` entries (`k` modulo `n`, so that it is total). -/
def at1 (n k : ℕ) (hn : 0 < n := by decide) : (⟨1, ![n]⟩ : Shape).Idx := fun a => ⟨k % n, by fin_cases a; exact Nat.mod_lt _ hn⟩

theorem eq_at1 {n : ℕ} (hn : 0 < n) (y : (⟨1, ![n]⟩ : Shape).Idx) (k : ℕ) (h : (y 0).val = k) : y = at1 n k hn := by
  funext a; fin_cases a
  refine Fin.ext ?_
  show (y 0).val = k % n
  rw [← h]; exact (Nat.mod_eq_of_lt (y 0).2).symm

theorem at1_val {n : ℕ} (hn : 0 < n) {k : ℕ} (h : k < n) : (at1 n k hn 0).val = k := Nat.mod_eq_of_lt h

/-! ## The words of one bound -/

/-- Where the prefix sum just before the bound `b` lies in the flat array of component `c`: `max (b - 1) 0 + 262144 * c`. -/
def idxW (c : Fin 3) (b : BitVec 32) : BitVec 32 :=
  IntOp.addi (IntOp.maxsi (IntOp.subi b 1#32) 0#32) (match c with | 0 => 0#32 | 1 => 262144#32 | 2 => 524288#32)

/-- The mask of a bound: one if it is above zero, else zero (no sum lies before a bound at zero). -/
def mskW (b : BitVec 32) : F .f32 :=
  Scalar.select (IntOp.cmpi .sgt b 0#32) (Scalar.ofBits .f32 0x3F800000#32) (Scalar.ofBits .f32 0x00000000#32)

/-- The kernel's index payload of component `c`. -/
def idxPay (c : Fin 3) : Vec F S16 .i32 → IVec S16 32 :=
  match c with | 0 => k1_pay4 | 1 => k1_pay5 | 2 => k1_pay6

theorem idxPay_apply (c : Fin 3) (v : Vec F S16 .i32) (x : S16.Idx) : idxPay c v x = idxW c (v x) := by
  fin_cases c
  · show k1_pay4 v x = _
    simp only [k1_pay4, k1_pay3, k1_pay2, shapeCast_self]; rfl
  · show k1_pay5 v x = _
    simp only [k1_pay5, k1_pay3, k1_pay2, shapeCast_self]; rfl
  · show k1_pay6 v x = _
    simp only [k1_pay6, k1_pay3, k1_pay2, shapeCast_self]; rfl

theorem mskPay_apply (v : Vec F S16 .i32) (x : S16.Idx) : k1_pay7 v x = mskW (v x) := by
  simp only [k1_pay7, k1_pay2, shapeCast_self]; rfl

theorem outPay_apply (v0 v1 v2 v3 : Vec F S16 .f32) (x : S16.Idx) :
    k1_pay114 v0 v1 v2 v3 x = FloatOps.subf (FloatOps.mulf (v3 x) (v1 x)) (FloatOps.mulf (v2 x) (v0 x)) := by
  simp only [k1_pay114, shapeCast_self]; rfl

/-! ## The arrays a task fills, in closed form -/

/-- The 816 indices of 272 bounds: component by component. -/
def idxC (w : S272.Idx → BitVec 32) : S816.Idx → BitVec 32 := fun y => idxW ⟨(y 0).val / 272 % 3, Nat.mod_lt _ (by decide)⟩ (w (at1 272 (y 0).val))

/-- The 272 masks. -/
def mskC (w : S272.Idx → BitVec 32) : S272.Idx → F .f32 := fun y => mskW (w y)

/-- The 256 differences of component `c`, from the fetched sums `g` and the masks `m`. -/
def outC (c : ℕ) (g : S816.Idx → F .f32) (m : S272.Idx → F .f32) : S256.Idx → F .f32 := fun y =>
  FloatOps.subf (FloatOps.mulf (g (at1 816 (c * 272 + (y 0).val + 1))) (m (at1 272 ((y 0).val + 1))))
    (FloatOps.mulf (g (at1 816 (c * 272 + (y 0).val))) (m (at1 272 (y 0).val)))

/-- The result of component `c` at row `r`: the masked prefix sum before bound `r + 1` less the one before bound `r`. -/
def segOut (c : Fin 3) (N : S8464.Idx → BitVec 32) (P : S786432.Idx → F .f32) : S8192.Idx → F .f32 := fun y =>
  FloatOps.subf
    (FloatOps.mulf (P (at1 786432 (idxW c (N (at1 8464 ((y 0).val + 1)))).toNat)) (mskW (N (at1 8464 ((y 0).val + 1)))))
    (FloatOps.mulf (P (at1 786432 (idxW c (N (at1 8464 (y 0).val))).toNat)) (mskW (N (at1 8464 (y 0).val))))

/-- The index of a bound in range: `b - 1` (zero at zero) in the block of component `c`. -/
theorem idxW_toNat (c : Fin 3) (b : BitVec 32) (hb : b.toNat ≤ 262144) : (idxW c b).toNat = (b.toNat - 1) + 262144 * c.val := by
  have e : IntOp.maxsi (b - 1#32) 0#32 = BitVec.ofNat 32 (b.toNat - 1) := by
    have h := Routing.maxsi_pred (c := b.toNat) (by omega)
    rwa [BitVec.ofNat_toNat, BitVec.setWidth_eq] at h
  unfold idxW IntOp.subi IntOp.addi
  rw [e]
  fin_cases c <;> simp [BitVec.toNat_add, BitVec.toNat_ofNat] <;> omega

theorem idxW_lt (c : Fin 3) (b : BitVec 32) (hb : b.toNat ≤ 262144) : (idxW c b).toNat < 786432 := by
  rw [idxW_toNat c b hb]; omega

/-- What the gather fetches at word `y`: the prefix sum its index names. -/
def gatC (P : S786432.Idx → F .f32) (w : S272.Idx → BitVec 32) : S816.Idx → F .f32 := fun y => P (at1 786432 (idxC w y).toNat)

theorem gather_eq (P : S786432.Idx → Elt F .f32) (ix : S816.Idx → BitVec 32) (hn : S816.numel = S816.size gathers_S786432_S816.axis')
    (hin : ∀ x, (ix x).toNat < S786432.size gathers_S786432_S816.axis) :
    SparseCore.gatherPayload (F := F) gathers_S786432_S816 P (SparseCore.rows (F := F) ix hn hin) = fun y => P (at1 786432 (ix y).toNat) := by
  funext y
  unfold SparseCore.gatherPayload
  refine congrArg P (eq_at1 (by decide) _ _ ?_)
  rw [show gathers_S786432_S816.idx (SparseCore.rows (F := F) ix hn hin) y 0 = SparseCore.rows (F := F) ix hn hin (y 0) from rfl]
  unfold SparseCore.rows
  show (ix _).toNat = (ix y).toNat
  congr 2
  apply S816.rowMajor.injective
  rw [Equiv.apply_symm_apply]
  refine Fin.ext ?_
  rw [Shape.rowMajor_val_one]; rfl

/-- The task at base row `o` stores the result's rows `o, …, o + 255`. -/
theorem outC_eq (c : Fin 3) (N : S8464.Idx → BitVec 32) (P : S786432.Idx → F .f32) (w : S272.Idx → BitVec 32) (o : ℕ) (ho : o + 256 ≤ 8192)
    (hw : ∀ y, w y = N (at1 8464 (o + (y 0).val))) (y : S256.Idx) :
    outC c.val (gatC P w) (mskC w) y = segOut c N P (at1 8192 (o + (y 0).val)) := by
  have hy : (y 0).val < 256 := (y 0).2
  have hc := c.2
  have g : ∀ k, k < 272 → gatC P w (at1 816 (c.val * 272 + k)) = P (at1 786432 (idxW c (N (at1 8464 (o + k)))).toNat) := by
    intro k hk
    unfold gatC idxC
    simp only [at1_val (n := 816) (by decide) (show c.val * 272 + k < 816 by omega)]
    have e1 : (⟨(c.val * 272 + k) / 272 % 3, Nat.mod_lt _ (by decide)⟩ : Fin 3) = c := Fin.ext (by dsimp only; omega)
    rw [e1, hw, show (at1 272 (c.val * 272 + k) (by decide) 0).val = k from by show (c.val * 272 + k) % 272 = k; omega]
  have m : ∀ k, k < 272 → (mskC w (at1 272 k) : F .f32) = mskW (N (at1 8464 (o + k))) := by
    intro k hk
    unfold mskC
    rw [hw, at1_val (by decide) hk]
  unfold outC segOut
  rw [at1_val (n := 8192) (by decide) (by omega), m _ (by omega), m _ (by omega), g _ (by omega), add_assoc (c.val * 272), g _ (by omega), add_assoc o]

/-! ## The pieces -/

/-- A piece of a vector at offset `o`: sixteen words. -/
abbrev r16 {n : ℕ} (o : ℕ) (h : o + 16 ≤ n) : Rect ⟨1, ![n]⟩ := Rect.unit (s := ⟨1, ![n]⟩) ![o] S16.size (Rect.inb₁ h)

theorem r16_emb {n : ℕ} (hn : 0 < n) (o : ℕ) (h : o + 16 ≤ n) (x : (r16 o h).shape.Idx) : (r16 o h).emb x = at1 n (o + (x 0).val) hn :=
  eq_at1 hn _ _ (ValueKit.rect_emb_unit_val _ _ _ x 0)

theorem mem_r16 {n : ℕ} (o : ℕ) (h : o + 16 ≤ n) (y : (⟨1, ![n]⟩ : Shape).Idx) : y ∈ (r16 o h).set ↔ o ≤ (y 0).val ∧ (y 0).val < o + 16 := by
  rw [Rect.mem_set_unit]
  constructor
  · intro hy; exact hy 0
  · intro hy a; fin_cases a; exact hy

section Buffers

/-- The task's five scratch arrays. -/
abbrev m0 : Memref sig .scVector .vmem S272 .i32 := Memref.whole cc1_scratch0
abbrev m1 : Memref sig .scVector .vmem S816 .i32 := Memref.whole cc1_scratch1
abbrev m2 : Memref sig .scVector .vmem S272 .f32 := Memref.whole cc1_scratch2
abbrev m3 : Memref sig .scVector .vmem S816 .f32 := Memref.whole cc1_scratch3
abbrev m4 : Memref sig .scVector .vmem S256 .f32 := Memref.whole cc1_scratch4

variable (w : m0.view.ty.Contents (Elt F)) (g : m3.view.ty.Contents (Elt F)) (mk : m2.view.ty.Contents (Elt F))

theorem lt816 (c : Fin 3) (i : Fin 17) : c.val * 272 + 16 * i.val + 16 ≤ 816 := by omega
theorem lt272 (i : Fin 17) : 16 * i.val + 16 ≤ 272 := by omega
theorem lt272' (i : Fin 16) : 16 * i.val + 16 ≤ 272 := by omega
theorem lt272'' (i : Fin 16) : 16 * i.val + 1 + 16 ≤ 272 := by omega
theorem lt816' (c : Fin 3) (i : Fin 16) : c.val * 272 + 16 * i.val + 16 ≤ 816 := by omega
theorem lt816'' (c : Fin 3) (i : Fin 16) : c.val * 272 + 16 * i.val + 1 + 16 ≤ 816 := by omega
theorem lt256 (i : Fin 16) : 16 * i.val + 16 ≤ 256 := by omega

/-- The store of sixteen indices of component `c`. -/
def idxPiece (i : Fin 17) (c : Fin 3) : View.Piece (Elt F) S816 .i32 :=
  ⟨r16 (c.val * 272 + 16 * i.val) (lt816 c i), idxPay c (View.readAt (Elt F) m0.view (r16 (16 * i.val) (lt272 i)).toLoadRect w)⟩

/-- The store of sixteen masks. -/
def mskPiece (i : Fin 17) : View.Piece (Elt F) S272 .f32 :=
  ⟨r16 (16 * i.val) (lt272 i), k1_pay7 (View.readAt (Elt F) m0.view (r16 (16 * i.val) (lt272 i)).toLoadRect w)⟩

/-- The store of sixteen differences of component `c`. -/
def outPiece (c : Fin 3) (i : Fin 16) : View.Piece (Elt F) S256 .f32 :=
  ⟨r16 (16 * i.val) (lt256 i),
    k1_pay114 (View.readAt (Elt F) m2.view (r16 (16 * i.val) (lt272' i)).toLoadRect mk)
      (View.readAt (Elt F) m2.view (r16 (16 * i.val + 1) (lt272'' i)).toLoadRect mk)
      (View.readAt (Elt F) m3.view (r16 (c.val * 272 + 16 * i.val) (lt816' c i)).toLoadRect g)
      (View.readAt (Elt F) m3.view (r16 (c.val * 272 + 16 * i.val + 1) (lt816'' c i)).toLoadRect g)⟩

/-- The stores of all the indices, the last first. -/
def idxPieces : List (View.Piece (Elt F) S816 .i32) :=
  (List.finRange 17).reverse.flatMap fun i => [idxPiece w i 2, idxPiece w i 1, idxPiece w i 0]
/-- The stores of all the masks, the last first. -/
def mskPieces : List (View.Piece (Elt F) S272 .f32) := (List.finRange 17).reverse.map (mskPiece w)
/-- The stores of all the differences of one component, the last first. -/
def outPieces (c : Fin 3) : List (View.Piece (Elt F) S256 .f32) := (List.finRange 16).reverse.map (outPiece g mk c)

theorem m0_read16 (o : ℕ) (h : o + 16 ≤ 272) (x : S16.Idx) :
    View.readAt (Elt F) m0.view (r16 o h).toLoadRect w x = m0.view.read (Elt F) w (at1 272 (o + (x 0).val)) :=
  congrArg (m0.view.read (Elt F) w) (r16_emb (by decide) o h x)

theorem m2_read16 (o : ℕ) (h : o + 16 ≤ 272) (x : S16.Idx) :
    View.readAt (Elt F) m2.view (r16 o h).toLoadRect mk x = m2.view.read (Elt F) mk (at1 272 (o + (x 0).val)) :=
  congrArg (m2.view.read (Elt F) mk) (r16_emb (by decide) o h x)

theorem m3_read16 (o : ℕ) (h : o + 16 ≤ 816) (x : S16.Idx) :
    View.readAt (Elt F) m3.view (r16 o h).toLoadRect g x = m3.view.read (Elt F) g (at1 816 (o + (x 0).val)) :=
  congrArg (m3.view.read (Elt F) g) (r16_emb (by decide) o h x)

/-- A store of sixteen indices stores the closed form's words. -/
theorem idxPiece_eq (i : Fin 17) (c : Fin 3) (x : S16.Idx) :
    (idxPiece w i c).2 x = idxC (m0.view.read (Elt F) w) ((idxPiece w i c).1.emb x) := by
  have hx : (x 0).val < 16 := (x 0).2
  have hc := c.2; have hi := i.2
  refine (idxPay_apply c _ x).trans ?_
  rw [m0_read16, show (idxPiece w i c).1.emb x = at1 816 (c.val * 272 + 16 * i.val + (x 0).val) from r16_emb (by decide) _ (lt816 c i) x]
  unfold idxC
  simp only [at1_val (n := 816) (by decide) (show c.val * 272 + 16 * i.val + (x 0).val < 816 by omega)]
  have e1 : (⟨(c.val * 272 + 16 * i.val + (x 0).val) / 272 % 3, Nat.mod_lt _ (by decide)⟩ : Fin 3) = c := Fin.ext (by dsimp only; omega)
  have e2 : at1 272 (16 * i.val + (x 0).val) (by decide) = at1 272 (c.val * 272 + 16 * i.val + (x 0).val) (by decide) := by
    funext a; refine Fin.ext ?_
    show (16 * i.val + (x 0).val) % 272 = (c.val * 272 + 16 * i.val + (x 0).val) % 272
    omega
  rw [e1, ← e2]

/-- A store of sixteen differences stores the closed form's words. -/
theorem outPiece_eq (c : Fin 3) (i : Fin 16) (x : S16.Idx) :
    (outPiece g mk c i).2 x = outC c.val (m3.view.read (Elt F) g) (m2.view.read (Elt F) mk) ((outPiece g mk c i).1.emb x) := by
  have hx : (x 0).val < 16 := (x 0).2
  have hc := c.2; have hi := i.2
  refine (outPay_apply _ _ _ _ x).trans ?_
  rw [m2_read16, m2_read16, m3_read16, m3_read16,
    show (outPiece g mk c i).1.emb x = at1 256 (16 * i.val + (x 0).val) from r16_emb (by decide) _ (lt256 i) x]
  unfold outC
  rw [at1_val (by decide) (by omega),
    show c.val * 272 + 16 * i.val + 1 + (x 0).val = c.val * 272 + (16 * i.val + (x 0).val) + 1 by omega,
    show 16 * i.val + 1 + (x 0).val = 16 * i.val + (x 0).val + 1 by omega,
    show c.val * 272 + 16 * i.val + (x 0).val = c.val * 272 + (16 * i.val + (x 0).val) by omega]

/-- What the index stores leave is the closed form, whatever the array held before. -/
theorem read_idxPieces (f : m1.view.ty.Contents (Elt F)) : m1.view.read (Elt F) (m1.view.writes (Elt F) f (idxPieces w)) = idxC (m0.view.read (Elt F) w) := by
  funext y
  refine View.read_writes_apply_of_pieces (Val := Elt F) (e := .i32) _ f (idxC (m0.view.read (Elt F) w)) _ ?_ y ?_
  · intro p hp x
    obtain ⟨i, -, hp⟩ := List.mem_flatMap.mp hp
    simp only [List.mem_cons, List.not_mem_nil, or_false] at hp
    rcases hp with rfl | rfl | rfl <;> exact idxPiece_eq w i _ x
  · have hy : (y 0).val < 816 := (y 0).2
    refine ⟨idxPiece w ⟨(y 0).val % 272 / 16, by omega⟩ ⟨(y 0).val / 272, by omega⟩, ?_, ?_⟩
    · refine List.mem_flatMap.mpr ⟨⟨(y 0).val % 272 / 16, by omega⟩, by simp, ?_⟩
      have : ∀ c : Fin 3, ∀ i, idxPiece w i c ∈ [idxPiece w i 2, idxPiece w i 1, idxPiece w i 0] := by intro c i; fin_cases c <;> simp
      exact this _ _
    · exact (mem_r16 _ (lt816 _ _) y).mpr ⟨by dsimp only; omega, by dsimp only; omega⟩

/-- What the mask stores leave is the closed form. -/
theorem read_mskPieces (f : m2.view.ty.Contents (Elt F)) : m2.view.read (Elt F) (m2.view.writes (Elt F) f (mskPieces w)) = mskC (m0.view.read (Elt F) w) := by
  funext y
  refine View.read_writes_apply_of_pieces (Val := Elt F) (e := .f32) _ f (mskC (m0.view.read (Elt F) w)) _ ?_ y ?_
  · intro p hp x
    obtain ⟨i, -, rfl⟩ := List.mem_map.mp hp
    exact mskPay_apply _ x
  · have hy : (y 0).val < 272 := (y 0).2
    refine ⟨mskPiece w ⟨(y 0).val / 16, by omega⟩, List.mem_map.mpr ⟨_, by simp, rfl⟩, ?_⟩
    exact (mem_r16 _ (lt272 _) y).mpr ⟨by dsimp only; omega, by dsimp only; omega⟩

/-- What the stores of one component's differences leave is the closed form, over whatever was stored before. -/
theorem read_outPieces (c : Fin 3) (f : m4.view.ty.Contents (Elt F)) (L : List (View.Piece (Elt F) S256 .f32)) :
    m4.view.read (Elt F) (m4.view.writes (Elt F) f (outPieces g mk c ++ L)) = outC c.val (m3.view.read (Elt F) g) (m2.view.read (Elt F) mk) := by
  rw [View.writes_append]
  funext y
  refine View.read_writes_apply_of_pieces (Val := Elt F) (e := .f32) _ _ (outC c.val (m3.view.read (Elt F) g) (m2.view.read (Elt F) mk)) _ ?_ y ?_
  · intro p hp x
    obtain ⟨i, -, rfl⟩ := List.mem_map.mp hp
    exact outPiece_eq g mk c i x
  · have hy : (y 0).val < 256 := (y 0).2
    refine ⟨outPiece g mk c ⟨(y 0).val / 16, by omega⟩, List.mem_map.mpr ⟨_, by simp, rfl⟩, ?_⟩
    exact (mem_r16 _ (lt256 _) y).mpr ⟨by dsimp only; omega, by dsimp only; omega⟩

end Buffers

end Cert.Proof.Seg

end
-- ==== Proof.Body.lean ====
/-
  The TensorCore kernel's body at one grid point: what it stores into the block of prefix sums and into the carry.
-/
module

public import proofs.«01_k».proof.Proof.Pieces
public import Idealize.ShloMosaic.Lib.CellWrites
public import Idealize.ShloMosaic.Lib.VecWindow

@[expose] public section

noncomputable section

namespace Cert.Proof.Seg

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The values a grid point computes -/

/-- The three blocks of inclusive prefix sums, from a block of values, a block of weights and the three carries. -/
def blk3 (x : Vec F S3x256x128 .f32) (w : Vec F S256x128 .f32) (z : Fin 3 → F .f32) : Fin 3 → FVec F S1x256x128 .f32 :=
  ![k0_pay5 x w (z 0), k0_pay7 (k0_pay2 x w) (k0_pay4 x w) (z 1), k0_pay9 (k0_pay2 x w) (k0_pay4 x w) (z 2)]

/-- The three carries after the block. -/
def carry3 (x : Vec F S3x256x128 .f32) (w : Vec F S256x128 .f32) (z : Fin 3 → F .f32) : Fin 3 → F .f32 :=
  ![k0_pay6 (k0_pay3 x w) (z 0), k0_pay8 (k0_pay3 x w) (z 1), k0_pay1 (z 2) (k0_pay10 (k0_pay3 x w))]

/-- A row and a lane of a one-component block. -/
abbrev i3 (r : Fin 256) (l : Fin 128) : S1x256x128.Idx := Fin.cons (⟨0, Nat.one_pos⟩ : Fin 1) (Fin.cons r (Fin.cons l finZeroElim))

/-- The block of prefix sums, all three components. -/
def blkOut (x : Vec F S3x256x128 .f32) (w : Vec F S256x128 .f32) (z : Fin 3 → F .f32) : S3x256x128.Idx → F .f32 :=
  fun y => blk3 x w z (y 0) (i3 (y 1) (y 2))

/-- The carry as the buffer of three words holds it. -/
def carryBuf (z : Fin 3 → F .f32) : S3.Idx → F .f32 := fun y => z (y 0)

/-- Before the first block the carries are zero. -/
def zero3 : Fin 3 → F .f32 := fun _ => Scalar.ofBits .f32 0x00000000#32

/-! ## The stores -/

/-- The stores into the block of prefix sums, the last first. -/
def blkPieces (x : Vec F S3x256x128 .f32) (w : Vec F S256x128 .f32) (z : Fin 3 → F .f32) : List (View.Piece (Elt F) S3x256x128 .f32) :=
  [⟨Rect.unit ![2, 0, 0] S1x256x128.size inb_S3x256x128_S1x256x128_2_0_0, blk3 x w z 2⟩, ⟨Rect.unit ![1, 0, 0] S1x256x128.size inb_S3x256x128_S1x256x128_1_0_0, blk3 x w z 1⟩,
    ⟨Rect.unit ![0, 0, 0] S1x256x128.size inb_S3x256x128_S1x256x128_0_0_0, blk3 x w z 0⟩]

/-- The stores of three words into the carry, the last first. -/
def carryPieces (z : Fin 3 → F .f32) : List (View.Piece (Elt F) S3 .f32) :=
  [⟨Rect.unit ![2] S1.size inb_S3_S1_2, fun _ => z 2⟩, ⟨Rect.unit ![1] S1.size inb_S3_S1_1, fun _ => z 1⟩, ⟨Rect.unit ![0] S1.size inb_S3_S1_0, fun _ => z 0⟩]

/-- Where one component's store puts row `r` and lane `l`. -/
theorem comp_emb (c : Fin 3) (h : ∀ a, (![c.val, 0, 0] : Fin 3 → ℕ) a + S1x256x128.size a ≤ S3x256x128.size a) (x : S1x256x128.Idx) :
    (Rect.unit (s := S3x256x128) ![c.val, 0, 0] S1x256x128.size h).emb x = (Fin.cons c (Fin.cons (x 1) (Fin.cons (x 2) finZeroElim)) : S3x256x128.Idx) := by
  have h0 : (x 0).val = 0 := by have : (x 0).val < 1 := (x 0).2; omega
  funext a; refine Fin.ext ?_
  rw [ValueKit.rect_emb_unit_val]
  match a with
  | 0 => exact (congrArg (c.val + ·) h0)
  | 1 => exact Nat.zero_add _
  | 2 => exact Nat.zero_add _

/-- One component's store covers exactly that component. -/
theorem comp_mem (c : Fin 3) (h : ∀ a, (![c.val, 0, 0] : Fin 3 → ℕ) a + S1x256x128.size a ≤ S3x256x128.size a) (y : S3x256x128.Idx) (hc : (y 0).val = c.val) :
    y ∈ (Rect.unit (s := S3x256x128) ![c.val, 0, 0] S1x256x128.size h).set :=
  Rect.mem_set_unit.mpr fun a => match a with
  | 0 => ⟨hc.ge, by show (y 0).val < c.val + 1; omega⟩
  | 1 => ⟨Nat.zero_le _, (y 1).2.trans_eq (Nat.zero_add _).symm⟩
  | 2 => ⟨Nat.zero_le _, (y 2).2.trans_eq (Nat.zero_add _).symm⟩

/-- The row and the lane of a one-component block name its position. -/
theorem i3_eq (x : S1x256x128.Idx) : i3 (x 1) (x 2) = x := by
  have h0 : (x 0).val < 1 := (x 0).2
  funext a; match a with
  | 0 => exact Fin.ext (Nat.lt_one_iff.mp h0).symm
  | 1 => rfl
  | 2 => rfl

/-- What the three stores leave in the block is the closed form, whatever it held. -/
theorem read_blkPieces {κ : Kind} {sp : Space} (v : View sig κ sp S3x256x128 .f32) (f : v.ty.Contents (Elt F)) (x : Vec F S3x256x128 .f32) (w : Vec F S256x128 .f32) (z : Fin 3 → F .f32) :
    v.read (Elt F) (v.writes (Elt F) f (blkPieces x w z)) = blkOut x w z := by
  funext y
  refine View.read_writes_apply_of_pieces (Val := Elt F) (e := .f32) _ f (blkOut x w z) _ ?_ y ?_
  · intro p hp q
    simp only [blkPieces, List.mem_cons, List.not_mem_nil, or_false] at hp
    rcases hp with rfl | rfl | rfl
    · refine Eq.trans ?_ (congrArg (blkOut x w z) (comp_emb 2 inb_S3x256x128_S1x256x128_2_0_0 q)).symm; exact congrArg (blk3 x w z 2) (i3_eq q).symm
    · refine Eq.trans ?_ (congrArg (blkOut x w z) (comp_emb 1 inb_S3x256x128_S1x256x128_1_0_0 q)).symm; exact congrArg (blk3 x w z 1) (i3_eq q).symm
    · refine Eq.trans ?_ (congrArg (blkOut x w z) (comp_emb 0 inb_S3x256x128_S1x256x128_0_0_0 q)).symm; exact congrArg (blk3 x w z 0) (i3_eq q).symm
  · have hy : (y 0).val < 3 := (y 0).2
    rcases (show (y 0).val = 0 ∨ (y 0).val = 1 ∨ (y 0).val = 2 by omega) with h | h | h
    · exact ⟨_, .tail _ (.tail _ (.head _)), comp_mem 0 inb_S3x256x128_S1x256x128_0_0_0 y h⟩
    · exact ⟨_, .tail _ (.head _), comp_mem 1 inb_S3x256x128_S1x256x128_1_0_0 y h⟩
    · exact ⟨_, .head _, comp_mem 2 inb_S3x256x128_S1x256x128_2_0_0 y h⟩

/-- What the three stores leave in the carry is the three words, whatever it held. -/
theorem read_carryPieces {κ : Kind} {sp : Space} (v : View sig κ sp S3 .f32) (f : v.ty.Contents (Elt F)) (z : Fin 3 → F .f32) (L : List (View.Piece (Elt F) S3 .f32)) :
    v.read (Elt F) (v.writes (Elt F) f (carryPieces z ++ L)) = carryBuf z := by
  funext y
  have hy : (y 0).val < 3 := (y 0).2
  show v.read (Elt F) (v.writes (Elt F) f (_ :: _ :: _ :: L)) y = _
  rw [View.read_writes_cons_cell, View.read_writes_cons_cell, View.read_writes_cons_cell]
  rcases (show (y 0).val = 0 ∨ (y 0).val = 1 ∨ (y 0).val = 2 by omega) with h | h | h
  · rw [if_neg (by rw [h]; decide), if_neg (by rw [h]; decide), if_pos (by rw [h]; rfl)]; exact congrArg z (Fin.ext h.symm)
  · rw [if_neg (by rw [h]; decide), if_pos (by rw [h]; rfl)]; exact congrArg z (Fin.ext h.symm)
  · rw [if_pos (by rw [h]; rfl)]; exact congrArg z (Fin.ext h.symm)

/-! ## The body, run -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Run

variable (c : Dev nD) (i : grid0.Coords) (M1 : Memref sig .tc .vmem S3x256x128 .f32) (h1 : M1.IsWhole) (M2 : Memref sig .tc .vmem S256x128 .f32) (h2 : M2.IsWhole)
  (M3 : Memref sig .tc .vmem S3x256x128 .f32) (h3 : M3.IsWhole) (M4 : Memref sig .tc .smem S3 .f32) (h4 : M4.IsWhole)
  (f1 : Bf (F := F) c M1) (f2 : Bf (F := F) c M2) (f3 : Bf (F := F) c M3) (f4 : Bf (F := F) c M4)

/-- What the body hands back: the two inputs as they were, the block of prefix sums and the carry after the block,
    from the carries `z`. -/
abbrev bodyPost (z : Fin 3 → F .f32) : sProp 𝕄 :=
  iprop(pt c M1 f1 ∗ pt c M2 f2 ∗ (∃ g : Bf (F := F) c M3, ⌜M3.view.read (Elt F) g = blkOut (M1.view.read (Elt F) f1) (M2.view.read (Elt F) f2) z⌝ ∗ pt c M3 g)
    ∗ (∃ g : Bf (F := F) c M4, ⌜M4.view.read (Elt F) g = carryBuf (carry3 (M1.view.read (Elt F) f1) (M2.view.read (Elt F) f2) z)⌝ ∗ pt c M4 g))

/-- Away from the first grid point the body continues from the carries it finds. -/
theorem body_next (hi : ¬ (i 0).val = 0) (z : Fin 3 → F .f32) (hz4 : M4.view.read (Elt F) f4 = carryBuf z) (E : Set ℕ) (Q : PUnit → sProp 𝕄) :
    (iprop(pt c M1 f1 ∗ pt c M2 f2 ∗ pt c M3 f3 ∗ pt c M4 f4 ∗ (bodyPost c M1 M2 M3 M4 f1 f2 z -∗ Q ⟨⟩)) : sProp 𝕄)
      ⊢ wp frame (wpE (defs₀ (F := F)) 𝒱₀ c none) E (cc0__cumsum_body i M1 h1 M2 h2 M3 h3 M4 h4) Q := by
  have hz : ¬ (Scalar.cmpi .ne (Scalar.extui (Scalar.cmpi .eq (BitVec.ofNat 32 (i 0).val) 0#32) : BitVec 32) 0#32 = 1#1) := by
    revert hi; generalize i 0 = k; revert k; decide
  rw [cc0__cumsum_body_eq_skeleton]; unfold cc0__cumsum_body_skel
  rw [k0_part1_eq_skeleton, k0_part2_eq_skeleton]; unfold k0_part1_skel k0_part2_skel
  simp only [hz]
  iintro ⟨H1, H2, H3, H4, Hk⟩
  sl_exec!
  sl_step
  have e1 := View.readAt_full (Val := Elt F) M1.view f1 (off := ![0, 0, 0]) inb_S3x256x128_S3x256x128_0_0_0
  have e2 := View.readAt_full (Val := Elt F) M2.view f2 (off := ![0, 0]) inb_S256x128_S256x128_0_0
  have r0 : body_next.sl.r c M4 f4 = z 0 := (congrFun hz4 ((Rect.unit (s := S3) ![0] S1.size inb_S3_S1_0).toLoadRect.idx (Shape.Idx.first (by decide)))).trans (congrArg z (Fin.ext rfl))
  have r1 : body_next.sl.r_1 c M4 f4 = z 1 := (congrFun hz4 ((Rect.unit (s := S3) ![1] S1.size inb_S3_S1_1).toLoadRect.idx (Shape.Idx.first (by decide)))).trans (congrArg z (Fin.ext rfl))
  have r2 : body_next.sl.r_2 c M4 f4 = z 2 := (congrFun hz4 ((Rect.unit (s := S3) ![2] S1.size inb_S3_S1_2).toLoadRect.idx (Shape.Idx.first (by decide)))).trans (congrArg z (Fin.ext rfl))
  have s3 : body_next.sl.H3_3 c M1 M2 M4 f1 f2 f4 = blkPieces (M1.view.read (Elt F) f1) (M2.view.read (Elt F) f2) z := by
    unfold body_next.sl.H3_3; rw [r0, r1, r2]
    refine Eq.trans ?_ (congrArg₂ (fun x w => blkPieces x w z) e1 e2); rfl
  have s4 : body_next.sl.H4_3 c M1 M2 M4 f1 f2 f4 = carryPieces (carry3 (M1.view.read (Elt F) f1) (M2.view.read (Elt F) f2) z) := by
    unfold body_next.sl.H4_3; rw [r0, r1, r2]
    refine Eq.trans ?_ (congrArg₂ (fun x w => carryPieces (carry3 x w z)) e1 e2); rfl
  rw [s3, s4]
  iapply Hk
  isplitl [H1]; · iexact H1
  isplitl [H2]; · iexact H2
  isplitl [H3]
  · iexists _; isplitr; swap; (· iexact H3); ipureintro; exact read_blkPieces _ _ _ _ _
  · iexists _; isplitr; swap; (· iexact H4); ipureintro; exact read_carryPieces _ _ _ []

/-- At the first grid point the body starts from zero carries, whatever the carry held. -/
theorem body_first (hi : (i 0).val = 0) (E : Set ℕ) (Q : PUnit → sProp 𝕄) :
    (iprop(pt c M1 f1 ∗ pt c M2 f2 ∗ pt c M3 f3 ∗ pt c M4 f4 ∗ (bodyPost c M1 M2 M3 M4 f1 f2 zero3 -∗ Q ⟨⟩)) : sProp 𝕄)
      ⊢ wp frame (wpE (defs₀ (F := F)) 𝒱₀ c none) E (cc0__cumsum_body i M1 h1 M2 h2 M3 h3 M4 h4) Q := by
  have hz : Scalar.cmpi .ne (Scalar.extui (Scalar.cmpi .eq (BitVec.ofNat 32 (i 0).val) 0#32) : BitVec 32) 0#32 = 1#1 := by
    revert hi; generalize i 0 = k; revert k; decide
  rw [cc0__cumsum_body_eq_skeleton]; unfold cc0__cumsum_body_skel
  rw [k0_part1_eq_skeleton, k0_part2_eq_skeleton]; unfold k0_part1_skel k0_part2_skel
  simp only [hz]
  iintro ⟨H1, H2, H3, H4, Hk⟩
  sl_exec!
  sl_step
  have e1 := View.readAt_full (Val := Elt F) M1.view f1 (off := ![0, 0, 0]) inb_S3x256x128_S3x256x128_0_0_0
  have e2 := View.readAt_full (Val := Elt F) M2.view f2 (off := ![0, 0]) inb_S256x128_S256x128_0_0
  have s3 : body_first.sl.H3_3 c M1 M2 f1 f2 = blkPieces (M1.view.read (Elt F) f1) (M2.view.read (Elt F) f2) zero3 := by
    unfold body_first.sl.H3_3
    refine Eq.trans ?_ (congrArg₂ (fun x w => blkPieces x w zero3) e1 e2); rfl
  have s4 : body_first.sl.H4_6 c M1 M2 f1 f2 = carryPieces (carry3 (M1.view.read (Elt F) f1) (M2.view.read (Elt F) f2) zero3) ++ carryPieces zero3 := by
    unfold body_first.sl.H4_6
    refine Eq.trans ?_ (congrArg₂ (fun x w => carryPieces (carry3 x w zero3) ++ carryPieces zero3) e1 e2); rfl
  rw [s3, s4]
  iapply Hk
  isplitl [H1]; · iexact H1
  isplitl [H2]; · iexact H2
  isplitl [H3]
  · iexists _; isplitr; swap; (· iexact H3); ipureintro; exact read_blkPieces _ _ _ _ _
  · iexists _; isplitr; swap; (· iexact H4); ipureintro; exact read_carryPieces _ _ _ _

end Run

end Cert.Proof.Seg

end
-- ==== Proof.Region.lean ====
/-
  The TensorCore kernel: its proof data, the body at every grid point, and the call as one step of the thread that makes it.
-/
module

public import proofs.«01_k».proof.Proof.Body
public import Idealize.ShloMosaic.Lib.Pipeline.RegionsLoop

@[expose] public section

noncomputable section

namespace Cert.Proof.Seg

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Owning a whole memref at `X` is holding its buffer at contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-! ## The proof data, at an entry valuation -/

section Entry

variable (V : Valuation τ sig (Elt F))

/-- The block of values at a grid point, read off the array of values. -/
def xAt (t : Fin cfg0.N) : S3x256x128.Idx → F .f32 := ((cfg0.win 0).blk t).view.read (Elt F) (V main_v1)
/-- The block of weights at a grid point, read off the array of weights. -/
def wAt (t : Fin cfg0.N) : S256x128.Idx → F .f32 := ((cfg0.win 1).blk t).view.read (Elt F) (V main_v2)

/-- The carries before point `n`: zero, then the running totals. -/
def carryAt : ℕ → Fin 3 → F .f32
  | 0 => zero3
  | n + 1 => if h : n < cfg0.N then carry3 (xAt V ⟨n, h⟩) (wAt V ⟨n, h⟩) (carryAt n) else carryAt n

theorem carryAt_succ (t : Fin cfg0.N) : carryAt V (t.val + 1) = carry3 (xAt V t) (wAt V t) (carryAt V t.val) := dif_pos t.2

/-- The buffer of the carries. -/
abbrev mS : Memref sig .tc .smem S3 .f32 := Memref.whole cc0_scratch0

/-- Before point `n` the buffer of the carries holds the running totals; before the first it holds anything. -/
def PhiS (c : Dev nD) (n : ℕ) : sProp 𝕄 :=
  iprop(∃ f : Bf (F := F) c mS, ⌜n ≠ 0 → mS.view.read (Elt F) f = carryBuf (carryAt V n)⌝ ∗ pt c mS f)

/-- The proof data of the call entered at `V`: both inputs stay as fetched, the result's block is the closed form, the
    carries run along, and the thread still owes the starts of the SparseCore call. -/
def dat (c : Dev nD) : Dat τ (Elt F) (HIx 1) ℕ UU ℕ cfg0 c where
  A w := V (Pipeline.arrRef spec0 w)
  after w t := match w with
    | ⟨0, _⟩ => xAt V t
    | ⟨1, _⟩ => wAt V t
    | ⟨2, _⟩ => blkOut (xAt V t) (wAt V t) (carryAt V t.val)
  Φ t := PhiS V c t.val
  q _ := fullShare
  owed _ := (K (F := F)).Otc c 0
  recorded _ := {p | (K (F := F)).lev (SparseCore.T c, p.1) p.2 ≤ 0}

theorem before_0 (c : Dev nD) (t : Fin cfg0.N) (d : (cfg0.win 0).block.Idx → Elt F (cfg0.win 0).elt) : (dat V c).before 0 t d = xAt V t := by
  unfold Dat.before; rw [if_pos (fetch0_0 t)]; rfl
theorem before_1 (c : Dev nD) (t : Fin cfg0.N) (d : (cfg0.win 1).block.Idx → Elt F (cfg0.win 1).elt) : (dat V c).before 1 t d = wAt V t := by
  unfold Dat.before; rw [if_pos (fetch0_1 t)]; rfl

/-- The grid coordinate of point `t` is `t`. -/
theorem coords_val (t : Fin cfg0.N) : (grid0.coords t 0).val = t.val := by
  have h : ∀ t : Fin grid0.N, (grid0.coords t 0).val = t.val := by decide
  exact h t

/-- The body obligation: the staging buffers and the carries taken apart, the body's lemma for a first or a later point
    applied, its post put together. -/
theorem body_obligation (c : Dev nD) : BodyObligation (dat V c) (defs₀ (F := F)) 𝒱₀ none Set.univ := fun t => by
  rw [bigSep_W0, bigSep_W0]
  simp only [owns_pt c _ (hstage0_0 _), owns_pt c _ (hstage0_1 _), owns_pt c _ (hstage0_2 _)]
  rw [show (dat V c).Φ t.castSucc = PhiS V c t.val from rfl, show (dat V c).Φ t.succ = PhiS V c (t.val + 1) from rfl,
    show (dat V c).owesAt none t.succ = (dat V c).owesAt none t.castSucc from rfl,
    show (dat V c).after 0 t = xAt V t from rfl, show (dat V c).after 1 t = wAt V t from rfl,
    show (dat V c).after 2 t = blkOut (xAt V t) (wAt V t) (carryAt V t.val) from rfl]
  unfold PhiS
  iintro ⟨⟨%f4, %hf4, H4⟩, Howes, ⟨%d0, %f0, %hf0, H0⟩, ⟨%d1, %f1, %hf1, H1⟩, ⟨%d2, %f2, -, H2⟩⟩
  rw [before_0] at hf0
  rw [before_1] at hf1
  rw [carryAt_succ, ← hf0, ← hf1]
  by_cases ht : t.val = 0
  · have hz : carryAt V t.val = zero3 := by rw [ht]; rfl
    rw [hz]
    iapply (body_first (F := F) c (grid0.coords t) _ (hstage0_0 _) _ (hstage0_1 _) _ (hstage0_2 _) mS (Memref.isWhole_whole _) f0 f1 f2 f4 ((coords_val t).trans ht) Set.univ _)
    isplitl [H0]; · iexact H0
    isplitl [H1]; · iexact H1
    isplitl [H2]; · iexact H2
    isplitl [H4]; · iexact H4
    unfold bodyPost
    iintro ⟨H0, H1, ⟨%g2, %hg2, H2⟩, ⟨%g4, %hg4, H4⟩⟩
    isplitl [H4]
    · iexists g4; isplitr; · ipureintro; exact fun _ => hg4
      iexact H4
    isplitl [Howes]; · iexact Howes
    isplitl [H0]
    · iexists f0; isplitr; · ipureintro; rfl
      iexact H0
    isplitl [H1]
    · iexists f1; isplitr; · ipureintro; rfl
      iexact H1
    iexists g2; isplitr; · ipureintro; exact hg2
    iexact H2
  · iapply (body_next (F := F) c (grid0.coords t) _ (hstage0_0 _) _ (hstage0_1 _) _ (hstage0_2 _) mS (Memref.isWhole_whole _) f0 f1 f2 f4 (fun h => ht ((coords_val t).symm.trans h)) _ (hf4 ht) Set.univ _)
    isplitl [H0]; · iexact H0
    isplitl [H1]; · iexact H1
    isplitl [H2]; · iexact H2
    isplitl [H4]; · iexact H4
    unfold bodyPost
    iintro ⟨H0, H1, ⟨%g2, %hg2, H2⟩, ⟨%g4, %hg4, H4⟩⟩
    isplitl [H4]
    · iexists g4; isplitr; · ipureintro; exact fun _ => hg4
      iexact H4
    isplitl [Howes]; · iexact Howes
    isplitl [H0]
    · iexists f0; isplitr; · ipureintro; rfl
      iexact H0
    isplitl [H1]
    · iexists f1; isplitr; · ipureintro; rfl
      iexact H1
    iexists g2; isplitr; · ipureintro; exact hg2
    iexact H2

/-! ## The call as one step of the thread that makes it -/

/-- The TensorCore's unscoped references: what the thread holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The thread owes nothing at the transfers' own index. -/
theorem Otc_none (c : Dev nD) (g : GSem nD τ sig) : (K (F := F)).Otc c 0 g (none : HIx 1) = 0 := by
  by_contra h
  have := SparseCore.Cfg.lev_of_Otc_pos (K := K (F := F)) (Nat.pos_of_ne_zero h)
  rw [SparseCore.Cfg.lev_none] at this; omega

/-- The tables the call is admitted at. -/
abbrev adm : (p : Fin 1) → (pcfgs (F := F) p).Adm := fun p => (cfgs p).toPCfg_adm
/-- The proof data of the only pipeline. -/
def pdats : (p : Fin 1) → (c : Dev nD) → Dat τ (Elt F) (HIx 1) ℕ UU ℕ (Pipeline.pin (pcfgs (F := F)) adm p) c
  | ⟨0, _⟩ => fun c => dat V c

/-- The array of prefix sums after the call. -/
def cum (c : Dev nD) : Buf (Elt F) ((c : Thread nD τ).loc main_v3) := (dat V c).arrAt 2 cfg0.N

variable (Vp : Valuation τ sig (Elt F))

/-- What the thread owes and has waited for before the SparseCore call. -/
abbrev owesBefore (c : Dev nD) : sProp 𝕄 := iprop(∃ W, ⌜(K (F := F)).WBelow (SparseCore.T c) W 0⌝ ∗ owes (SparseCore.T c) ((K (F := F)).Otc c 0) W)

/-- The scoped buffers no window stages are the carries' buffer, at anything: the invariant before the first point. -/
theorem PhiS_intro (c : Dev nD) : (Pipeline.scopedRest spec0 c : sProp 𝕄) ⊢ PhiS V c 0 := by
  rw [scopedRest0_eq]; unfold PhiS
  iintro ⟨%f, Hr⟩
  iexists f; isplitr; · ipureintro; exact fun h => absurd rfl h
  iexact Hr

/-- The invariant gives that buffer back. -/
theorem PhiS_elim (c : Dev nD) (n : ℕ) : PhiS V c n ⊢ (Pipeline.scopedRest spec0 c : sProp 𝕄) := by
  rw [scopedRest0_eq]; unfold PhiS
  iintro ⟨%f, -, Hr⟩
  iexists f; iexact Hr

set_option backward.isDefEq.respectTransparency.types false in
/-- The call entered with the unscoped buffers at `V` and left with them at `Vp`, which has the prefix sums and agrees
    with `V` elsewhere. -/
def reg (hVp_out : ∀ c : Dev nD, Vp main_v3 = cum V c) (hVp_ne : ∀ b : Ref sig .tc, b ≠ main_v3 → Vp b = V b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (fun b => V b) ∗ owesBefore c)
  post c := iprop(unscopedBufs c (fun b => Vp b) ∗ owesBefore c)
  X _ := BI.emp
  Y _ := BI.emp
  Z c := iprop(Pipeline.unscopedRest (Ix := HIx 1) (Name := ℕ) (U := UU) (Lvl := ℕ) spec0 c (fun b => V b))
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V b) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = PhiS V c 0 from rfl]
    iintro ⟨-, -, Hr⟩
    iapply (PhiS_intro V c); iexact Hr
  hout c := by
    rw [Pipeline.ownSems0_none, show (pdats V 0 c).Φ (Fin.last _) = PhiS V c cfg0.N from rfl]
    iintro Hr
    isplitr; · iempintro
    isplitr; · iempintro
    iapply (PhiS_elim V c cfg0.N); iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (fun b => V b) (fun b => Vp b) ((pdats V 0 c).arrAt · cfg0.N)
      (fun w => by
        fin_cases w
        · exact ((pdats V 0 c).arrAt_in 0 rfl _).trans (hVp_ne main_v1 (by decide)).symm
        · exact ((pdats V 0 c).arrAt_in 1 rfl _).trans (hVp_ne main_v2 (by decide)).symm
        · exact (hVp_out c).symm)
      (fun b hb => hVp_ne b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact le_rfl
    iexact HO

end Entry

end Cert.Proof.Seg

end
-- ==== Proof.Vals.lean ====
/-
  The values the host operations pass between the two kernels, and the result they leave.
-/
module

public import proofs.«01_k».proof.Proof.Region

@[expose] public section

noncomputable section

namespace Cert.Proof.Seg

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open StableHlo (held)

/-! ## The host operations -/

abbrev opT : HloOp τ sig (Elt F) := StableHlo.unary main_arg0 main_v0 ((transpose S3x262144 [1, 0] · transposes_S262144x3_S3x262144_1_0) : (⟨S262144x3, .f32⟩ : BufTy).Contents (Elt F) → (⟨S3x262144, .f32⟩ : BufTy).Contents (Elt F))
abbrev opX : HloOp τ sig (Elt F) := StableHlo.reshape main_v0 main_v1 (rfl : (.f32 : EltTy) = .f32) shapeCasts_S3x262144_S3x2048x128
abbrev opW : HloOp τ sig (Elt F) := StableHlo.reshape main_arg1 main_v2 (rfl : (.f32 : EltTy) = .f32) shapeCasts_S262144x1_S2048x128
abbrev opC : HloOp τ sig (Elt F) := StableHlo.nullary main_c (constantI S_ 32 262144#32)
abbrev opB : HloOp τ sig (Elt F) := StableHlo.unary main_c main_v4 (broadcastInDim S271 ![] bcast_S_S271 : (⟨S_, .i32⟩ : BufTy).Contents (Elt F) → (⟨S271, .i32⟩ : BufTy).Contents (Elt F))
abbrev opN : HloOp τ sig (Elt F) := StableHlo.binary main_arg2 main_v4 main_v5 ((fun a b => concatenate S8464 0 [⟨S8193, a⟩, ⟨S271, b⟩] concatenates_S8193_S271_S8464_d0) : (⟨S8193, .i32⟩ : BufTy).Contents (Elt F) → (⟨S271, .i32⟩ : BufTy).Contents (Elt F) → (⟨S8464, .i32⟩ : BufTy).Contents (Elt F))
abbrev opP : HloOp τ sig (Elt F) := StableHlo.reshape main_v3 main_v6 (rfl : (.f32 : EltTy) = .f32) shapeCasts_S3x2048x128_S786432
abbrev opO0 : HloOp τ sig (Elt F) := StableHlo.unary main_v7_0 main_v8 (broadcastInDim S8192x1 ![0] bcast_S8192_S8192x1_0 : (⟨S8192, .f32⟩ : BufTy).Contents (Elt F) → (⟨S8192x1, .f32⟩ : BufTy).Contents (Elt F))
abbrev opO1 : HloOp τ sig (Elt F) := StableHlo.unary main_v7_1 main_v9 (broadcastInDim S8192x1 ![0] bcast_S8192_S8192x1_0 : (⟨S8192, .f32⟩ : BufTy).Contents (Elt F) → (⟨S8192x1, .f32⟩ : BufTy).Contents (Elt F))
abbrev opO2 : HloOp τ sig (Elt F) := StableHlo.unary main_v7_2 main_v10 (broadcastInDim S8192x1 ![0] bcast_S8192_S8192x1_0 : (⟨S8192, .f32⟩ : BufTy).Contents (Elt F) → (⟨S8192x1, .f32⟩ : BufTy).Contents (Elt F))
abbrev opS : HloOp τ sig (Elt F) := StableHlo.nary ![main_v8, main_v9, main_v10] main_v11 (fun u => (concatenate S8192x3 1 [⟨S8192x1, (u 0 : (⟨S8192x1, .f32⟩ : BufTy).Contents (Elt F))⟩, ⟨S8192x1, (u 1 : (⟨S8192x1, .f32⟩ : BufTy).Contents (Elt F))⟩, ⟨S8192x1, (u 2 : (⟨S8192x1, .f32⟩ : BufTy).Contents (Elt F))⟩] concatenates_S8192x1_S8192x1_S8192x1_S8192x3_d1 : (⟨S8192x3, .f32⟩ : BufTy).Contents (Elt F)))

/-! ## The valuations -/

variable (m : (ℓ : Loc nD τ sig) → Buf (Elt F) ℓ)

/-- The mesh's only device. -/
abbrev d0 : Dev nD := ⟨0, Nat.one_pos⟩

/-- At the launch; before the TensorCore kernel; after it; before the SparseCore kernel. -/
def Va : Valuation τ sig (Elt F) := fun b => m (d0, b)
def Vb : Valuation τ sig (Elt F) := StableHlo.after [opT, opX, opW] (Va m)
def Vc : Valuation τ sig (Elt F) := Function.update (Vb m) main_v3 (cum (Vb m) d0)
def Vd : Valuation τ sig (Elt F) := StableHlo.after [opC, opB, opN, opP] (Vc m)

/-- The padded bounds and the flat prefix sums. -/
def bnd : S8464.Idx → BitVec 32 := Vd m main_v5
def pre : S786432.Idx → F .f32 := Vd m main_v6

/-- After the SparseCore kernel; at the end. -/
def Ve : Valuation τ sig (Elt F) :=
  Function.update (Function.update (Function.update (Vd m) main_v7_0 (segOut 0 (bnd m) (pre m))) main_v7_1 (segOut 1 (bnd m) (pre m))) main_v7_2 (segOut 2 (bnd m) (pre m))
def Vf : Valuation τ sig (Elt F) := StableHlo.after [opO0, opO1, opO2, opS] (Ve m)

/-! ## What they hold -/

theorem update_ref (V : Valuation τ sig (Elt F)) (y b : Ref sig .tc) (f : (y : DevRef τ sig).ty.Contents (Elt F)) (h : b ≠ y) :
    Function.update V y f b = V b :=
  Function.update_of_ne (StableHlo.devRef_ne_of_ne h) _ _

theorem Vb_v1 : Vb m main_v1 = shapeCast S3x2048x128 (transpose S3x262144 [1, 0] (m (vLoc d0)) transposes_S262144x3_S3x262144_1_0) shapeCasts_S3x262144_S3x2048x128 := by
  unfold Vb; after_results; rfl
theorem Vb_v2 : Vb m main_v2 = shapeCast S2048x128 (m (wLoc d0)) shapeCasts_S262144x1_S2048x128 := by
  unfold Vb; after_results; rfl

/-- The launch contents at an argument are still there at the end. -/
theorem Vf_arg0 : Vf m main_arg0 = m (vLoc d0) := by
  unfold Vf; after_results; unfold Ve; rw [update_ref, update_ref, update_ref] <;> try decide
  unfold Vd; after_results; unfold Vc; rw [update_ref] <;> try decide
  unfold Vb; after_results; rfl
theorem Vf_arg1 : Vf m main_arg1 = m (wLoc d0) := by
  unfold Vf; after_results; unfold Ve; rw [update_ref, update_ref, update_ref] <;> try decide
  unfold Vd; after_results; unfold Vc; rw [update_ref] <;> try decide
  unfold Vb; after_results; rfl
theorem Vc_arg2 : Vc m main_arg2 = m (cuLoc d0) := by
  unfold Vc; rw [update_ref] <;> try decide
  unfold Vb; after_results; rfl
theorem Vf_arg2 : Vf m main_arg2 = m (cuLoc d0) := by
  unfold Vf; after_results; unfold Ve; rw [update_ref, update_ref, update_ref] <;> try decide
  unfold Vd; after_results; exact Vc_arg2 m

/-- The outputs of the SparseCore kernel still hold what they held at the launch when it starts. -/
theorem Vd_v7_0 : Vd m main_v7_0 = m (aLoc d0) := by
  unfold Vd; after_results; unfold Vc; rw [update_ref] <;> try decide
  unfold Vb; after_results; rfl
theorem Vd_v7_1 : Vd m main_v7_1 = m (bLoc d0) := by
  unfold Vd; after_results; unfold Vc; rw [update_ref] <;> try decide
  unfold Vb; after_results; rfl
theorem Vd_v7_2 : Vd m main_v7_2 = m (eLoc d0) := by
  unfold Vd; after_results; unfold Vc; rw [update_ref] <;> try decide
  unfold Vb; after_results; rfl

/-- The padded bounds: the bounds, then the number of elements 271 times. -/
theorem bnd_eq : bnd m = concatenate S8464 0 [⟨S8193, m (cuLoc d0)⟩, ⟨S271, broadcastInDim S271 ![] bcast_S_S271 (constantI S_ 32 262144#32)⟩] concatenates_S8193_S271_S8464_d0 := by
  unfold bnd Vd; after_results; rw [Vc_arg2]

/-- The flat prefix sums: the TensorCore kernel's result, flattened. -/
theorem pre_eq : pre m = shapeCast S786432 (cum (Vb m) d0) shapeCasts_S3x2048x128_S786432 := by
  unfold pre Vd; after_results; unfold Vc; rw [Function.update_self]; rfl

/-- The three columns stacked. -/
def stack3 (a b e : S8192.Idx → F .f32) : S8192x3.Idx → F .f32 :=
  concatenate S8192x3 1 [⟨S8192x1, broadcastInDim S8192x1 ![0] bcast_S8192_S8192x1_0 a⟩, ⟨S8192x1, broadcastInDim S8192x1 ![0] bcast_S8192_S8192x1_0 b⟩, ⟨S8192x1, broadcastInDim S8192x1 ![0] bcast_S8192_S8192x1_0 e⟩] concatenates_S8192x1_S8192x1_S8192x1_S8192x3_d1

/-- The SparseCore kernel's results, where it leaves them. -/
theorem Ve_v7_0 : Ve m main_v7_0 = segOut 0 (bnd m) (pre m) := by
  unfold Ve; rw [update_ref, update_ref, Function.update_self] <;> decide
theorem Ve_v7_1 : Ve m main_v7_1 = segOut 1 (bnd m) (pre m) := by
  unfold Ve; rw [update_ref, Function.update_self] <;> decide
theorem Ve_v7_2 : Ve m main_v7_2 = segOut 2 (bnd m) (pre m) := by
  unfold Ve; rw [Function.update_self]

/-- The program's result: the three stacked. -/
theorem Vf_v11 : Vf m main_v11 = stack3 (segOut 0 (bnd m) (pre m)) (segOut 1 (bnd m) (pre m)) (segOut 2 (bnd m) (pre m)) := by
  have h0 : StableHlo.after [opO0, opO1, opO2] (Ve m) main_v8 = broadcastInDim S8192x1 ![0] bcast_S8192_S8192x1_0 (segOut 0 (bnd m) (pre m)) := by
    after_results; rw [Ve_v7_0]
  have h1 : StableHlo.after [opO0, opO1, opO2] (Ve m) main_v9 = broadcastInDim S8192x1 ![0] bcast_S8192_S8192x1_0 (segOut 1 (bnd m) (pre m)) := by
    after_results; rw [Ve_v7_1]
  have h2 : StableHlo.after [opO0, opO1, opO2] (Ve m) main_v10 = broadcastInDim S8192x1 ![0] bcast_S8192_S8192x1_0 (segOut 2 (bnd m) (pre m)) := by
    after_results; rw [Ve_v7_2]
  unfold Vf; after_results; unfold stack3
  refine StableHlo.concatenate_congr _ _ ?_ _ _
  rw [← h0, ← h1, ← h2]; rfl

end Cert.Proof.Seg

end
-- ==== Proof.Pre.lean ====
/-
  What the precondition on the bounds says, as a plain fact; and that the padded bounds lie in range.
-/
module

public import proofs.«01_k».proof.Defs
public import proofs.«01_k».proof.Proof.Gen.Pre_offsets_in_range
public import proofs.«01_k».proof.Proof.Vals
public import Idealize.ShloMosaic.Lib.Pointwise.SelectCore
public import Idealize.ShloMosaic.Lib.ReduceAll

@[expose] public section

noncomputable section

namespace Cert.Proof.Seg

open Idealize.ShloMosaic
open Idealize.ShloMosaic.IntOp (andi_eq_one)
open Cert.KernelIdeal

/-- The word of a truth value is 1 when the value is true. -/
theorem word_eq_one (b : Bool) : BitVec.ofBool b = 1#1 ↔ b = true := by cases b <;> decide

/-- A signed comparison of two words below `2 ^ 31` is one of their values; words that compare at least 0 are that small. -/
theorem range_of_cmp {v : BitVec 32} (h0 : IntOp.cmpi .sge v 0#32 = 1#1) (h1 : IntOp.cmpi .sle v 262144#32 = 1#1) : v.toNat ≤ 262144 := by
  simp only [IntOp.cmpi, word_eq_one, BitVec.sle_eq_decide, decide_eq_true_eq,
    BitVec.toInt_eq_toNat_cond, BitVec.toNat_ofNat, Nat.reducePow, Nat.reduceMod] at h0 h1
  omega

/-- Words in range that compare in order are in order. -/
theorem le_of_cmp {a b : BitVec 32} (ha : a.toNat ≤ 262144) (hb : b.toNat ≤ 262144) (h : IntOp.cmpi .sle a b = 1#1) : a.toNat ≤ b.toNat := by
  simp only [IntOp.cmpi, word_eq_one, BitVec.sle_eq_decide, decide_eq_true_eq,
    BitVec.toInt_eq_toNat_cond, BitVec.toNat_ofNat, Nat.reducePow, Nat.reduceMod] at h
  omega

/-- The first precondition puts every bound between 0 and the number of samples. -/
theorem range_of_offsets {F : FTy → Type} [FloatOps F] {v : FVec F S262144x3 .f32} {w : FVec F S262144x1 .f32} {cu : S8193.Idx → BitVec 32}
    (h : Cert.Pre_offsets_in_range.fn (F := F) v w cu = fun _ => 1#1) (j : S8193.Idx) : (cu j).toNat ≤ 262144 := by
  have e := congrFun h j
  simp only [Cert.Pre_offsets_in_range.fn, andi, cmpi, broadcastInDim, constantI] at e
  exact range_of_cmp (andi_eq_one.1 e).1 (andi_eq_one.1 e).2

/-- A padded bound is one of the given bounds, or the number of samples. -/
theorem bnd_apply {F : FTy → Type} [FloatOps F] (m : (ℓ : Loc nD τ sig) → Buf (Elt F) ℓ) (k : ℕ) (hk : k < 8464) :
    bnd m (at1 8464 k) = if h : k < 8193 then m (cuLoc d0) (at1 8193 k) else 262144#32 := by
  rw [bnd_eq, Idealize.ShloMosaic.concatenate_pair_apply]
  have e : (at1 8464 k (by decide) 0).val = k := at1_val (by decide) hk
  by_cases h : k < 8193
  · rw [dif_pos h, dif_pos (by rw [e]; exact h)]
    exact congrArg _ (eq_at1 (by decide) _ k e)
  · rw [dif_neg h, dif_neg (by rw [e]; exact h)]; rfl

theorem bnd_le {F : FTy → Type} [FloatOps F] (m : (ℓ : Loc nD τ sig) → Buf (Elt F) ℓ) (h : ∀ j, ((m (cuLoc d0) : S8193.Idx → BitVec 32) j).toNat ≤ 262144) (y : S8464.Idx) :
    (bnd m y).toNat ≤ 262144 := by
  rw [eq_at1 (by decide) y _ rfl, bnd_apply m _ (y 0).isLt]
  split
  · exact h _
  · simp

end Cert.Proof.Seg

end
-- ==== Proof.Tile.lean ====
module

public import proofs.«01_k».proof.Proof.Pieces

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "pV" => (Memref.whole Cert.KernelIdeal.main_v6_scv : Memref Cert.KernelIdeal.sig Kind.scVector Space.hbm Cert.KernelIdeal.S786432 EltTy.f32)
local notation "nV" => (Memref.whole Cert.KernelIdeal.main_v5_scv : Memref Cert.KernelIdeal.sig Kind.scVector Space.hbm Cert.KernelIdeal.S8464 EltTy.i32)
local notation "aV" => (Memref.whole Cert.KernelIdeal.main_v7_0_scv : Memref Cert.KernelIdeal.sig Kind.scVector Space.hbm Cert.KernelIdeal.S8192 EltTy.f32)
local notation "bV" => (Memref.whole Cert.KernelIdeal.main_v7_1_scv : Memref Cert.KernelIdeal.sig Kind.scVector Space.hbm Cert.KernelIdeal.S8192 EltTy.f32)
local notation "eV" => (Memref.whole Cert.KernelIdeal.main_v7_2_scv : Memref Cert.KernelIdeal.sig Kind.scVector Space.hbm Cert.KernelIdeal.S8192 EltTy.f32)
section Tile

variable (d : Dev nD) (L : grid1.Coords)

abbrev cV (L : grid1.Coords) : Fin τ.nSC := (L 0).castLE hcore1
abbrev jV (L : grid1.Coords) : Fin τ.nSub := (L 1).castLE hsub1
/-- The vector subcore at coordinates `L`. -/
abbrev thr (d : Dev nD) (L : grid1.Coords) : Thread nD τ := V d (cV L) (jV L)

/-- The windows of the task: 272 bounds, and 256 rows of each output. -/
abbrev nRowK (L : grid1.Coords) : Memref sig .scVector .hbm S272 .i32 := (nV).slice (Rect.unit (s := S8464) (k1_off1 L) S272.size (k1_off1_inb L)) (fun _ => rfl)
abbrev aRowK (L : grid1.Coords) : Memref sig .scVector .hbm S256 .f32 := (aV).slice (Rect.unit (s := S8192) (k1_off2 L) S256.size (k1_off2_inb L)) (fun _ => rfl)
abbrev bRowK (L : grid1.Coords) : Memref sig .scVector .hbm S256 .f32 := (bV).slice (Rect.unit (s := S8192) (k1_off2 L) S256.size (k1_off2_inb L)) (fun _ => rfl)
abbrev eRowK (L : grid1.Coords) : Memref sig .scVector .hbm S256 .f32 := (eV).slice (Rect.unit (s := S8192) (k1_off2 L) S256.size (k1_off2_inb L)) (fun _ => rfl)

/-- An array held at contents equal to `g` is held at `g`. -/
theorem restated (ℓ : Loc nD τ sig) (g : Buf (Elt F) ℓ) : (iprop(∃ f, ⌜f = g⌝ ∗ ℓ ↦{fullShare} f) : sProp 𝕄) ⊢ ℓ ↦{fullShare} g := by
  iintro ⟨%f, %h, H⟩; subst h; iexact H

/-- The task's first row: its number times 256. -/
abbrev base (L : grid1.Coords) : ℕ := 512 * (L 1).val + 256 * (L 0).val

theorem base_le (L : grid1.Coords) : base L + 256 ≤ 8192 := by
  have h1 : (L 1).val < 16 := (L 1).2
  have h0 : (L 0).val < 2 := (L 0).2
  unfold base; omega

/-- Word `y` of the task's bounds is bound `base + y`. -/
theorem nRowK_read (fn : S8464.Idx → BitVec 32) (y : S272.Idx) :
    (nRowK L).view.read (Elt F) fn y = fn (at1 8464 (base L + (y 0).val)) := by
  show fn ((Rect.unit (s := S8464) (k1_off1 L) S272.size (k1_off1_inb L)).emb y) = _
  refine congrArg fn (eq_at1 (by decide) _ _ ?_)
  rw [ValueKit.rect_emb_unit_val]
  show k1_off1 L 0 + _ = _
  exact congrArg (· + (y 0).val) (congrFun (k1_off1_eq L) 0)

/-- Row `y` of the task's window of an output is row `base + y` of the output. -/
theorem row_emb (y : S256.Idx) : (Rect.unit (s := S8192) (k1_off2 L) S256.size (k1_off2_inb L)).emb y = at1 8192 (base L + (y 0).val) := by
  refine eq_at1 (by decide) _ _ ?_
  rw [ValueKit.rect_emb_unit_val]
  show k1_off2 L 0 + _ = _
  exact congrArg (· + (y 0).val) (congrFun (k1_off2_eq L) 0)

/-- What a view holds after one store of its whole window is the stored words. -/
theorem read_written {sp : Space} {s : Shape} {e : EltTy} (v : View sig .scVector sp s e) (f : v.ty.Contents (Elt F)) (w : s.Idx → Elt F e) :
    v.read (Elt F) (v.writes (Elt F) f [⟨Rect.whole s, w⟩]) = w := by
  funext y
  have h := View.read_writes_cons_emb v f (Rect.whole s) w [] y
  rwa [Rect.emb_whole_apply] at h

/-- A window stored whole agrees with an array whose window reads as the stored words. -/
theorem landed {sp : Space} {s : Shape} {e : EltTy} (v : View sig .scVector sp s e) (f G : v.ty.Contents (Elt F)) (w : s.Idx → Elt F e)
    (hG : v.read (Elt F) G = w) : ∀ i ∈ v.set, v.writes (Elt F) f [⟨Rect.whole s, w⟩] i = G i := by
  intro i hi
  obtain ⟨y, rfl⟩ := View.exists_emb_of_mem_set _ hi
  have h := congrFun ((read_written v f w).trans hG.symm) y
  rw [View.read_apply, View.read_apply] at h
  exact (cast_bijective _).injective h

/-- The prefix sums, sliced whole, read as themselves. -/
theorem whole_read (fp : S786432.Idx → F .f32) :
    View.read (Elt F) ((pV).slice (Rect.unit (s := S786432) ![0] S786432.size inb_S786432_S786432_0) (fun _ => rfl)).view fp = fp := by
  funext y
  show fp ((Rect.unit (s := S786432) ![0] S786432.size inb_S786432_S786432_0).emb y) = fp y
  refine congrArg fp (funext fun a => Fin.ext ?_)
  rw [ValueKit.rect_emb_unit_val]
  fin_cases a; exact Nat.zero_add _

/-- The stores of one component's differences, one by one. -/
theorem outPieces_list (g : m3.view.ty.Contents (Elt F)) (mk : m2.view.ty.Contents (Elt F)) (c : Fin 3) :
    outPieces g mk c = [outPiece g mk c 15, outPiece g mk c 14, outPiece g mk c 13, outPiece g mk c 12, outPiece g mk c 11, outPiece g mk c 10,
      outPiece g mk c 9, outPiece g mk c 8, outPiece g mk c 7, outPiece g mk c 6, outPiece g mk c 5, outPiece g mk c 4, outPiece g mk c 3,
      outPiece g mk c 2, outPiece g mk c 1, outPiece g mk c 0] := rfl

/-- The task's rows of the differences of the whole array are what the task stores. -/
theorem segOut_rows (c : Fin 3) (fn : S8464.Idx → BitVec 32) (fp : S786432.Idx → F .f32) (cw : S272.Idx → BitVec 32)
    (hcw : cw = (nRowK L).view.read (Elt F) fn) :
    (fun y => segOut c fn fp ((Rect.unit (s := S8192) (k1_off2 L) S256.size (k1_off2_inb L)).emb y)) = outC c.val (gatC fp cw) (mskC cw) := by
  funext y
  rw [outC_eq c fn fp cw (base L) (base_le L) fun y => by rw [hcw]; exact nRowK_read L fn y]
  exact congrArg (segOut c fn fp) (row_emb L y)

set_option maxHeartbeats 4000000 in
/-- The task at coordinates `L`, from its buffers and its cells to its rows of the three outputs: row `r` of output `c`
    holds the difference of the masked prefix sums at bounds `r + 1` and `r`. -/
theorem tile_core (q : PosShare TreeShare) (f0 f1 f2 f3 f4 fa fb fe) (fn : S8464.Idx → BitVec 32) (fp : S786432.Idx → F .f32)
    (cw : S272.Idx → BitVec 32) (hcw : cw = (nRowK L).view.read (Elt F) fn) (hle : ∀ y, (cw y).toNat ≤ 262144)
    (O : CellTallies nD τ sig (HIx 1)) (W : Waits sig (HIx 1)) :
    (iprop(Transfers.MayWaits (V d (cV L) (jV L)) (default : HIx 1) O
        ∗ ((nRowK L).view.loc (V d (cV L) (jV L)) ↦[(nRowK L).view.set]{q} fn) ∗ ((pV).view.loc (V d (cV L) (jV L)) ↦{q} fp)
        ∗ ((aRowK L).view.loc (V d (cV L) (jV L)) ↦[(aRowK L).view.set]{fullShare} fa)
        ∗ ((bRowK L).view.loc (V d (cV L) (jV L)) ↦[(bRowK L).view.set]{fullShare} fb)
        ∗ ((eRowK L).view.loc (V d (cV L) (jV L)) ↦[(eRowK L).view.set]{fullShare} fe)
        ∗ (m0.view.loc (V d (cV L) (jV L)) ↦{fullShare} f0) ∗ (m1.view.loc (V d (cV L) (jV L)) ↦{fullShare} f1)
        ∗ (m2.view.loc (V d (cV L) (jV L)) ↦{fullShare} f2) ∗ (m3.view.loc (V d (cV L) (jV L)) ↦{fullShare} f3)
        ∗ (m4.view.loc (V d (cV L) (jV L)) ↦{fullShare} f4)
        ∗ semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scratch5.sem) 0
        ∗ owes (V d (cV L) (jV L)) O W) : sProp 𝕄)
      ⊢ wp frame (wpE (defs₀ (F := F)) 𝒱₀ (V d (cV L) (jV L)) none) Set.univ
          (cc1_stage_b L pV (Memref.isWhole_whole _) nV (Memref.isWhole_whole _) aV (Memref.isWhole_whole _) bV (Memref.isWhole_whole _) eV (Memref.isWhole_whole _)
            m0 (Memref.isWhole_whole _) m1 (Memref.isWhole_whole _) m2 (Memref.isWhole_whole _) m3 (Memref.isWhole_whole _) m4 (Memref.isWhole_whole _)
            cc1_scratch5 cc1_scoped0 cc1_scoped1 cc1_scoped2 cc1_scoped3)
          fun _ => iprop(
            ((nRowK L).view.loc (V d (cV L) (jV L)) ↦[(nRowK L).view.set]{q} fn) ∗ ((pV).view.loc (V d (cV L) (jV L)) ↦{q} fp)
            ∗ ((aRowK L).view.loc (V d (cV L) (jV L)) ↦[(aRowK L).view.set]{fullShare} segOut 0 fn fp)
            ∗ ((bRowK L).view.loc (V d (cV L) (jV L)) ↦[(bRowK L).view.set]{fullShare} segOut 1 fn fp)
            ∗ ((eRowK L).view.loc (V d (cV L) (jV L)) ↦[(eRowK L).view.set]{fullShare} segOut 2 fn fp)
            ∗ (∃ f, m0.view.loc (V d (cV L) (jV L)) ↦{fullShare} f) ∗ (∃ f, m1.view.loc (V d (cV L) (jV L)) ↦{fullShare} f)
            ∗ (∃ f, m2.view.loc (V d (cV L) (jV L)) ↦{fullShare} f) ∗ (∃ f, m3.view.loc (V d (cV L) (jV L)) ↦{fullShare} f)
            ∗ (∃ f, m4.view.loc (V d (cV L) (jV L)) ↦{fullShare} f)
            ∗ semVal (V d (cV L) (jV L), SemLoc.dma cc1_scoped0.sem) 0 ∗ semVal (V d (cV L) (jV L), SemLoc.dma cc1_scoped1.sem) 0
            ∗ semVal (V d (cV L) (jV L), SemLoc.dma cc1_scoped2.sem) 0 ∗ semVal (V d (cV L) (jV L), SemLoc.dma cc1_scoped3.sem) 0
            ∗ semVal (V d (cV L) (jV L), SemLoc.dma cc1_scratch5.sem) 0
            ∗ ∃ W', ⌜∀ p ∈ W', p ∈ W ∨ p.2 = none⌝ ∗ owes (V d (cV L) (jV L)) O W') := by
  rw [cc1_stage_b_eq_skeleton]; unfold cc1_stage_b_skel
  iintro ⟨Hmw, Hn, Hp, Ha, Hb, He, H0, H1, H2, H3, H4, Hs0, Hs1, Hs2, Hs3, Hs5, HO⟩
  sl_exec
  have hw : View.write (Elt F) m0.view f0 (tile_core.sl.dma0 L fn) Finset.univ = cw := (View.write_whole_univ _ _ _).trans hcw.symm
  ihave H1 := (restated (m1.view.loc (V d (cV L) (jV L))) (idxC cw)) $$ [H1]
  · iexists _; isplitr; swap; (· iexact H1); ipureintro
    refine (show _ = m1.view.writes (Elt F) m1.view.junk (idxPieces (View.write (Elt F) m0.view f0 (tile_core.sl.dma0 L fn) Finset.univ)) from rfl).trans ?_
    rw [hw]; exact read_idxPieces (F := F) _ _
  ihave H2 := (restated (m2.view.loc (V d (cV L) (jV L))) (mskC (F := F) cw)) $$ [H2]
  · iexists _; isplitr; swap; (· iexact H2); ipureintro
    refine (show _ = m2.view.writes (Elt F) f2 (mskPieces (View.write (Elt F) m0.view f0 (tile_core.sl.dma0 L fn) Finset.univ)) from rfl).trans ?_
    rw [hw]; exact read_mskPieces (F := F) _ _
  have hin : ∀ x : S816.Idx, (m1.view.read (Elt F) (idxC cw) x).toNat < 786432 := fun x => idxW_lt _ _ (hle _)
  sl_exec
  have hg : tile_core.sl.gather0 fp cw hin = gatC fp cw := by
    unfold tile_core.sl.gather0; rw [whole_read]; exact gather_eq fp (idxC cw) _ hin
  have hm3 : m3.view.read (Elt F) (m3.view.writes (Elt F) m3.view.junk [⟨Rect.whole S816, tile_core.sl.gather0 fp cw hin⟩]) = gatC fp cw :=
    (read_written m3.view m3.view.junk (tile_core.sl.gather0 fp cw hin)).trans hg
  have s0 : tile_core.sl.H4_16 fp cw hin
      = outPieces (m3.view.writes (Elt F) m3.view.junk [⟨Rect.whole S816, tile_core.sl.gather0 fp cw hin⟩]) (mskC cw) 0 ++ [] := by
    rw [outPieces_list]; rfl
  have d0 : tile_core.sl.dma96 d L f4 fp cw hin = outC 0 (gatC fp cw) (mskC cw) := by
    refine (show _ = m4.view.read (Elt F) (m4.view.writes (Elt F) f4 (tile_core.sl.H4_16 fp cw hin)) from rfl).trans ?_
    rw [s0, read_outPieces, hm3]; rfl
  have s1 : tile_core.sl.H4_32 fp cw hin
      = outPieces (m3.view.writes (Elt F) m3.view.junk [⟨Rect.whole S816, tile_core.sl.gather0 fp cw hin⟩]) (mskC cw) 1 ++ tile_core.sl.H4_16 fp cw hin := by
    rw [outPieces_list]; rfl
  have d1 : tile_core.sl.dma192 d L f4 fp cw hin = outC 1 (gatC fp cw) (mskC cw) := by
    refine (show _ = m4.view.read (Elt F) (m4.view.writes (Elt F) f4 (tile_core.sl.H4_32 fp cw hin)) from rfl).trans ?_
    rw [s1, read_outPieces, hm3]; rfl
  have s2 : tile_core.sl.H4_48 fp cw hin
      = outPieces (m3.view.writes (Elt F) m3.view.junk [⟨Rect.whole S816, tile_core.sl.gather0 fp cw hin⟩]) (mskC cw) 2 ++ tile_core.sl.H4_32 fp cw hin := by
    rw [outPieces_list]; rfl
  have d2 : tile_core.sl.dma288 d L f4 fp cw hin = outC 2 (gatC fp cw) (mskC cw) := by
    refine (show _ = m4.view.read (Elt F) (m4.view.writes (Elt F) f4 (tile_core.sl.H4_48 fp cw hin)) from rfl).trans ?_
    rw [s2, read_outPieces, hm3]; rfl
  sl_step
  isplitl [Hn]; · iexact Hn
  isplitl [Hp]; · iexact Hp
  isplitl [Ha]
  · iapply (Entails.of_eq (pointsTo_congr (landed (aRowK L).view fa (segOut 0 fn fp) _ ((segOut_rows L 0 fn fp cw hcw).trans d0.symm)))); iexact Ha
  isplitl [Hb]
  · iapply (Entails.of_eq (pointsTo_congr (landed (bRowK L).view fb (segOut 1 fn fp) _ ((segOut_rows L 1 fn fp cw hcw).trans d1.symm)))); iexact Hb
  isplitl [He]
  · iapply (Entails.of_eq (pointsTo_congr (landed (eRowK L).view fe (segOut 2 fn fp) _ ((segOut_rows L 2 fn fp cw hcw).trans d2.symm)))); iexact He
  isplitl [H0]; · iexists _; iexact H0
  isplitl [H1]; · iexists _; iexact H1
  isplitl [H2]; · iexists _; iexact H2
  isplitl [H3]; · iexists _; iexact H3
  isplitl [H4]; · iexists _; iexact H4
  isplitl [Hs0]; · iexact Hs0
  isplitl [Hs1]; · iexact Hs1
  isplitl [Hs2]; · iexact Hs2
  isplitl [Hs3]; · iexact Hs3
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Seg

end
-- ==== Proof.Task.lean ====
/-
  The task of one vector subcore as the launch library wants it: what the SparseCore call hands each task and takes
  back, the task's run from its own scratch buffers and semaphores, and how the call's operands split among the 32
  tasks.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "pV" => (Memref.whole Cert.KernelIdeal.main_v6_scv : Memref Cert.KernelIdeal.sig Kind.scVector Space.hbm Cert.KernelIdeal.S786432 EltTy.f32)
local notation "nV" => (Memref.whole Cert.KernelIdeal.main_v5_scv : Memref Cert.KernelIdeal.sig Kind.scVector Space.hbm Cert.KernelIdeal.S8464 EltTy.i32)
local notation "aV" => (Memref.whole Cert.KernelIdeal.main_v7_0_scv : Memref Cert.KernelIdeal.sig Kind.scVector Space.hbm Cert.KernelIdeal.S8192 EltTy.f32)
local notation "bV" => (Memref.whole Cert.KernelIdeal.main_v7_1_scv : Memref Cert.KernelIdeal.sig Kind.scVector Space.hbm Cert.KernelIdeal.S8192 EltTy.f32)
local notation "eV" => (Memref.whole Cert.KernelIdeal.main_v7_2_scv : Memref Cert.KernelIdeal.sig Kind.scVector Space.hbm Cert.KernelIdeal.S8192 EltTy.f32)

/-! ## The rows of a task -/

theorem div32 : 32 ∣ S8192.size 0 := ⟨256, rfl⟩
/-- Task `w` has rows `256 * w` to `256 * w + 255` of each output. -/
abbrev rowSet (w : Fin 32) : Finset S8192.Idx := (Rect.part (s := S8192) (a₀ := 0) div32 w).set

/-- The number of the task on subcore `i` of SparseCore `c`. -/
abbrev wid (c : Fin 2) (i : Fin 16) : Fin 32 := ⟨2 * i.val + c.val, by omega⟩

/-- The tasks are the pairs of a SparseCore and a subcore. -/
def widEquiv : Fin 2 × Fin 16 ≃ Fin 32 where
  toFun p := wid p.1 p.2
  invFun w := (⟨w.val % 2, by omega⟩, ⟨w.val / 2, by omega⟩)
  left_inv p := by rcases p with ⟨c, i⟩; refine Prod.ext (Fin.ext ?_) (Fin.ext ?_) <;> (simp only [wid]; omega)
  right_inv w := Fin.ext (by simp only [wid]; omega)

theorem rows_disjoint : ∀ i ∈ (Finset.univ : Finset (Fin 32)), ∀ j ∈ (Finset.univ : Finset (Fin 32)), i ≠ j → Disjoint (rowSet i) (rowSet j) :=
  fun _ _ _ _ h => Rect.part_disjoint div32 h
theorem rows_cover : (Finset.univ : Finset (Fin 32)).biUnion rowSet = Finset.univ := Rect.biUnion_part div32

/-- A conjunction over the tasks is one over the SparseCores and their subcores. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv, bigSep_univ_prod]; rfl

/-! ## What the call carries -/

variable (m : (ℓ : Loc nD τ sig) → Buf (Elt F) ℓ)
variable (N : S8464.Idx → BitVec 32) (P : S786432.Idx → F .f32)

/-- Task `w`'s read share of an array. -/
abbrev sh (w : Fin 32) : PosShare TreeShare := ShareLeaves.leaf 5 fullShare w

/-- What task `w` is handed: read shares of the bounds and the prefix sums, and its rows of the outputs. -/
abbrev given (d : Dev nD) (fa fb fe : S8192.Idx → F .f32) (w : Fin 32) : sProp 𝕄 :=
  iprop((nLoc d ↦{sh w} N) ∗ (pLoc d ↦{sh w} P) ∗ (aLoc d ↦[rowSet w]{fullShare} fa) ∗ (bLoc d ↦[rowSet w]{fullShare} fb)
    ∗ (eLoc d ↦[rowSet w]{fullShare} fe))

/-- The call's five operands, whole. -/
abbrev operands (d : Dev nD) (fa fb fe : S8192.Idx → F .f32) : sProp 𝕄 :=
  iprop((nLoc d ↦{fullShare} N) ∗ (pLoc d ↦{fullShare} P) ∗ (aLoc d ↦{fullShare} fa) ∗ (bLoc d ↦{fullShare} fb) ∗ (eLoc d ↦{fullShare} fe))

/-! An output, whole, is the tasks' rows of it. -/
set_option maxRecDepth 16384 in
theorem a_rows (d : Dev nD) (f : S8192.Idx → F .f32) :
    (aLoc d ↦{fullShare} f : sProp 𝕄) = bigSep Finset.univ fun w : Fin 32 => aLoc d ↦[rowSet w]{fullShare} f := by
  refine .trans ?_ (pointsTo_biUnion Finset.univ (ℓ := aLoc d) rowSet rows_disjoint)
  rw [rows_cover]
set_option maxRecDepth 16384 in
theorem b_rows (d : Dev nD) (f : S8192.Idx → F .f32) :
    (bLoc d ↦{fullShare} f : sProp 𝕄) = bigSep Finset.univ fun w : Fin 32 => bLoc d ↦[rowSet w]{fullShare} f := by
  refine .trans ?_ (pointsTo_biUnion Finset.univ (ℓ := bLoc d) rowSet rows_disjoint)
  rw [rows_cover]
set_option maxRecDepth 16384 in
theorem e_rows (d : Dev nD) (f : S8192.Idx → F .f32) :
    (eLoc d ↦{fullShare} f : sProp 𝕄) = bigSep Finset.univ fun w : Fin 32 => eLoc d ↦[rowSet w]{fullShare} f := by
  refine .trans ?_ (pointsTo_biUnion Finset.univ (ℓ := eLoc d) rowSet rows_disjoint)
  rw [rows_cover]

/-- A table, whole, is the tasks' shares of it. -/
theorem table_shares (ℓ : Loc nD τ sig) (f : Buf (Elt F) ℓ) : (ℓ ↦{fullShare} f : sProp 𝕄) = bigSep Finset.univ fun w : Fin 32 => ℓ ↦{sh w} f :=
  ShareLeaves.pointsTo_leaves (ℓ := ℓ) _ f 5 fullShare

/-- The operands are the tasks' parts. -/
theorem operands_split (d : Dev nD) (fa fb fe : S8192.Idx → F .f32) :
    operands N P d fa fb fe = bigSep Finset.univ fun w : Fin 32 => given N P d fa fb fe w := by
  unfold operands given
  rw [bigSep_sep', bigSep_sep', bigSep_sep', bigSep_sep']
  rw [table_shares (nLoc d), table_shares (pLoc d), a_rows, b_rows, e_rows]

/-- What a task gets and brings back. -/
abbrev goP (d : Dev nD) (w : Fin 32) : sProp 𝕄 := given N P d (m (aLoc d)) (m (bLoc d)) (m (eLoc d)) w
abbrev tdP (d : Dev nD) (w : Fin 32) : sProp 𝕄 := given N P d (segOut 0 N P) (segOut 1 N P) (segOut 2 N P) w

/-- The call takes the operands and brings them back, the outputs at the differences of the prefix sums; each
    SparseCore has its sixteen tasks' parts. -/
def Pc : (K (F := F)).Pay (nD := nD) (Val := Elt F) (Name := ℕ) (U := UU) where
  st := fun q d c => match q with | 0 => bigSep Finset.univ fun i : Fin 16 => goP m N P d (wid (Fin.cast nCore_zero c) i)
  dn := fun q d c => match q with | 0 => bigSep Finset.univ fun i : Fin 16 => tdP N P d (wid (Fin.cast nCore_zero c) i)
  go := fun q d c i => match q with | 0 => goP m N P d (wid (Fin.cast nCore_zero c) (Fin.cast nSub_zero i))
  td := fun q d c i => match q with | 0 => tdP N P d (wid (Fin.cast nCore_zero c) (Fin.cast nSub_zero i))
  x := fun _ _ => iprop(emp)

instance Pc_storable : (Pc m N P).IsStorable where
  st q d c := match q with
    | 0 => (inferInstance : BI.Storable (upEmb : UEmb _ 𝕄) (bigSep Finset.univ fun i : Fin 16 => goP m N P d (wid (Fin.cast nCore_zero c) i)))
  dn q d c := match q with
    | 0 => (inferInstance : BI.Storable (upEmb : UEmb _ 𝕄) (bigSep Finset.univ fun i : Fin 16 => tdP N P d (wid (Fin.cast nCore_zero c) i)))
  go q d c i := match q with
    | 0 => (inferInstance : BI.Storable (upEmb : UEmb _ 𝕄) (goP m N P d (wid (Fin.cast nCore_zero c) (Fin.cast nSub_zero i))))
  td q d c i := match q with
    | 0 => (inferInstance : BI.Storable (upEmb : UEmb _ 𝕄) (tdP N P d (wid (Fin.cast nCore_zero c) (Fin.cast nSub_zero i))))

theorem vecSplit : (K (F := F)).VecSplit' (Pc m N P) 0 := by
  intro d c
  show (bigSep Finset.univ fun i : Fin 16 => goP m N P d (wid (Fin.cast nCore_zero c) i)) ⊢ |={Set.univ}=> iprop(
      (bigSep Finset.univ fun i : Fin 16 => goP m N P d (wid (Fin.cast nCore_zero c) i))
      ∗ ((bigSep Finset.univ fun i : Fin 16 => tdP N P d (wid (Fin.cast nCore_zero c) i))
          -∗ bigSep Finset.univ fun i : Fin 16 => tdP N P d (wid (Fin.cast nCore_zero c) i)))
  iintro H; imodintro
  isplitl [H]; · iexact H
  iintro H; iexact H

theorem st_eq (d : Dev nD) : (bigSep Finset.univ fun c : Fin ((K (F := F)).nCore 0) => (Pc m N P).st 0 d c)
    = operands N P d (m (aLoc d)) (m (bLoc d)) (m (eLoc d)) := by
  rw [operands_split, bigSep_wid]; rfl
theorem dn_eq (d : Dev nD) : (bigSep Finset.univ fun c : Fin ((K (F := F)).nCore 0) => (Pc m N P).dn 0 d c)
    = operands N P d (segOut 0 N P) (segOut 1 N P) (segOut 2 N P) := by
  rw [operands_split, bigSep_wid]; rfl

/-! ## The task's own buffers and cells -/

section Task

variable (d : Dev nD) (L : grid1.Coords)

/-- Task number of the coordinates. -/
abbrev wL (L : grid1.Coords) : Fin 32 := wid (Fin.cast (show grid1.bound 0 = 2 from rfl) (L 0)) (Fin.cast (show grid1.bound 1 = 16 from rfl) (L 1))

theorem rowK_eq : Rect.unit (s := S8192) (k1_off2 L) S256.size (k1_off2_inb L) = Rect.part (s := S8192) (a₀ := 0) div32 (wL L) := by
  unfold Rect.part Rect.block
  congr 1 <;> funext a
  · rw [k1_off2_eq]
    match a with
    | 0 =>
      simp only [Shape.partIx, Shape.partSize]
      show 512 * (L 1).val + 256 * (L 0).val = (2 * (L 1).val + (L 0).val) * 256
      omega
  · match a with
    | 0 => simp [Shape.partSize]

theorem set_aRowK : (aRowK L).view.set = rowSet (wL L) := by
  show ((aV).view.slice (Rect.unit (s := S8192) (k1_off2 L) S256.size (k1_off2_inb L))).set = _
  rw [View.set_slice, rowK_eq]; exact Finset.map_refl
theorem set_bRowK : (bRowK L).view.set = rowSet (wL L) := by
  show ((bV).view.slice (Rect.unit (s := S8192) (k1_off2 L) S256.size (k1_off2_inb L))).set = _
  rw [View.set_slice, rowK_eq]; exact Finset.map_refl
theorem set_eRowK : (eRowK L).view.set = rowSet (wL L) := by
  show ((eV).view.slice (Rect.unit (s := S8192) (k1_off2 L) S256.size (k1_off2_inb L))).set = _
  rw [View.set_slice, rowK_eq]; exact Finset.map_refl

theorem pts_aRowK (f : S8192.Idx → F .f32) :
    ((aRowK L).view.loc (V d (cV L) (jV L)) ↦[(aRowK L).view.set]{fullShare} f : sProp 𝕄) = aLoc d ↦[rowSet (wL L)]{fullShare} f := by
  rw [set_aRowK]
theorem pts_bRowK (f : S8192.Idx → F .f32) :
    ((bRowK L).view.loc (V d (cV L) (jV L)) ↦[(bRowK L).view.set]{fullShare} f : sProp 𝕄) = bLoc d ↦[rowSet (wL L)]{fullShare} f := by
  rw [set_bRowK]
theorem pts_eRowK (f : S8192.Idx → F .f32) :
    ((eRowK L).view.loc (V d (cV L) (jV L)) ↦[(eRowK L).view.set]{fullShare} f : sProp 𝕄) = eLoc d ↦[rowSet (wL L)]{fullShare} f := by
  rw [set_eRowK]

abbrev cellOf (s : DmaSem sig) : GSem nD τ sig := (V d (cV L) (jV L), .dma s)

theorem mem_cell (s : DmaSem sig) (h : (SemLoc.dma s : SemLoc sig).isScoped .scVector = true) : cellOf d L s ∈ ownCells (V d (cV L) (jV L)) :=
  mem_ownCells.mpr ⟨rfl, h⟩
theorem cell_ne {s s' : DmaSem sig} (h : s ≠ s') : cellOf d L s ≠ cellOf d L s' := fun e => h (SemLoc.dma.inj (Prod.mk.inj e).2)
theorem mem_er {I : Type} [DecidableEq I] {s : Finset I} {a b : I} (h : a ≠ b) (ha : a ∈ s) : a ∈ s.erase b := Finset.mem_erase.mpr ⟨h, ha⟩

/-- The five semaphores of the task are among the subcore's own. -/
theorem ownSems0_V :
    (ownSems0 (V d (cV L) (jV L)) : sProp 𝕄)
      = iprop(semVal (cellOf d L cc1_scoped0.sem) 0 ∗ semVal (cellOf d L cc1_scoped1.sem) 0 ∗ semVal (cellOf d L cc1_scoped2.sem) 0
          ∗ semVal (cellOf d L cc1_scoped3.sem) 0 ∗ semVal (cellOf d L cc1_scratch5.sem) 0
          ∗ bigSep ((((((ownCells (V d (cV L) (jV L))).erase (cellOf d L cc1_scoped0.sem)).erase (cellOf d L cc1_scoped1.sem)).erase
              (cellOf d L cc1_scoped2.sem)).erase (cellOf d L cc1_scoped3.sem)).erase (cellOf d L cc1_scratch5.sem)) fun g => semVal g 0) := by
  unfold SparseCore.Cfg.ownSems0
  rw [SparseCore.bigSep_erase' (mem_cell d L cc1_scoped0.sem (by decide)),
    SparseCore.bigSep_erase' (mem_er (cell_ne d L (show cc1_scoped1.sem ≠ cc1_scoped0.sem by decide)) (mem_cell d L cc1_scoped1.sem (by decide))),
    SparseCore.bigSep_erase' (mem_er (cell_ne d L (show cc1_scoped2.sem ≠ cc1_scoped1.sem by decide))
      (mem_er (cell_ne d L (show cc1_scoped2.sem ≠ cc1_scoped0.sem by decide)) (mem_cell d L cc1_scoped2.sem (by decide)))),
    SparseCore.bigSep_erase' (mem_er (cell_ne d L (show cc1_scoped3.sem ≠ cc1_scoped2.sem by decide))
      (mem_er (cell_ne d L (show cc1_scoped3.sem ≠ cc1_scoped1.sem by decide))
      (mem_er (cell_ne d L (show cc1_scoped3.sem ≠ cc1_scoped0.sem by decide)) (mem_cell d L cc1_scoped3.sem (by decide))))),
    SparseCore.bigSep_erase' (mem_er (cell_ne d L (show cc1_scratch5.sem ≠ cc1_scoped3.sem by decide))
      (mem_er (cell_ne d L (show cc1_scratch5.sem ≠ cc1_scoped2.sem by decide))
      (mem_er (cell_ne d L (show cc1_scratch5.sem ≠ cc1_scoped1.sem by decide))
      (mem_er (cell_ne d L (show cc1_scratch5.sem ≠ cc1_scoped0.sem by decide)) (mem_cell d L cc1_scratch5.sem (by decide))))))]

abbrev bufOf (b : Ref sig .scVector) : DevRef τ sig := (Proc.scVector (cV L) (jV L)).devRef b
theorem buf_ne {b b' : Ref sig .scVector} (h : b ≠ b') : bufOf L b ≠ bufOf L b' := fun e => h (Proc.devRef_injective _ e)
theorem mem_buf (b : Ref sig .scVector) (h : (bufOf L b).owner = .proc (.scVector (cV L) (jV L))) : bufOf L b ∈ ownRefs (τ := τ) (.scVector (cV L) (jV L)) :=
  SparseCore.Cfg.mem_ownRefs_of_owner h

/-- The five scratch buffers of the task are among the subcore's own. -/
theorem ownBufs_V :
    (ownBufs (V d (cV L) (jV L)) : sProp 𝕄)
      = iprop((∃ f, m0.view.loc (V d (cV L) (jV L)) ↦{fullShare} f) ∗ (∃ f, m1.view.loc (V d (cV L) (jV L)) ↦{fullShare} f)
          ∗ (∃ f, m2.view.loc (V d (cV L) (jV L)) ↦{fullShare} f) ∗ (∃ f, m3.view.loc (V d (cV L) (jV L)) ↦{fullShare} f)
          ∗ (∃ f, m4.view.loc (V d (cV L) (jV L)) ↦{fullShare} f)
          ∗ bigSep ((((((ownRefs (τ := τ) (.scVector (cV L) (jV L))).erase (bufOf L cc1_scratch0)).erase (bufOf L cc1_scratch1)).erase
              (bufOf L cc1_scratch2)).erase (bufOf L cc1_scratch3)).erase (bufOf L cc1_scratch4))
              fun b => iprop(∃ f, ((d, b) : Loc nD τ sig) ↦{fullShare} f)) := by
  unfold SparseCore.Cfg.ownBufs
  refine (SparseCore.bigSep_erase' (mem_buf L cc1_scratch0 rfl)).trans ?_
  rw [SparseCore.bigSep_erase' (mem_er (buf_ne L (show (cc1_scratch1 : Ref sig .scVector) ≠ cc1_scratch0 by decide)) (mem_buf L cc1_scratch1 rfl)),
    SparseCore.bigSep_erase' (mem_er (buf_ne L (show (cc1_scratch2 : Ref sig .scVector) ≠ cc1_scratch1 by decide))
      (mem_er (buf_ne L (show (cc1_scratch2 : Ref sig .scVector) ≠ cc1_scratch0 by decide)) (mem_buf L cc1_scratch2 rfl))),
    SparseCore.bigSep_erase' (mem_er (buf_ne L (show (cc1_scratch3 : Ref sig .scVector) ≠ cc1_scratch2 by decide))
      (mem_er (buf_ne L (show (cc1_scratch3 : Ref sig .scVector) ≠ cc1_scratch1 by decide))
      (mem_er (buf_ne L (show (cc1_scratch3 : Ref sig .scVector) ≠ cc1_scratch0 by decide)) (mem_buf L cc1_scratch3 rfl)))),
    SparseCore.bigSep_erase' (mem_er (buf_ne L (show (cc1_scratch4 : Ref sig .scVector) ≠ cc1_scratch3 by decide))
      (mem_er (buf_ne L (show (cc1_scratch4 : Ref sig .scVector) ≠ cc1_scratch2 by decide))
      (mem_er (buf_ne L (show (cc1_scratch4 : Ref sig .scVector) ≠ cc1_scratch1 by decide))
      (mem_er (buf_ne L (show (cc1_scratch4 : Ref sig .scVector) ≠ cc1_scratch0 by decide)) (mem_buf L cc1_scratch4 rfl)))))]

/-- The task at coordinates `L`, from its part of the operands to its part of the results. -/
theorem tile_body (hF : (K (F := F)).Facts) (hN : ∀ y, (N y).toNat ≤ 262144) (O : CellTallies nD τ sig (HIx 1)) (W : Waits sig (HIx 1))
    (hO : ∀ g, O g none = 0) :
    iprop(levAts (K (F := F)).L (K (F := F)).lev ∗ emp ∗ goP m N P d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_stage_b L pV (Memref.isWhole_whole _) nV (Memref.isWhole_whole _) aV (Memref.isWhole_whole _) bV (Memref.isWhole_whole _) eV (Memref.isWhole_whole _)
            m0 (Memref.isWhole_whole _) m1 (Memref.isWhole_whole _) m2 (Memref.isWhole_whole _) m3 (Memref.isWhole_whole _) m4 (Memref.isWhole_whole _)
            cc1_scratch5 cc1_scoped0 cc1_scoped1 cc1_scoped2 cc1_scoped3)
          fun _ => iprop(tdP N P d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP tdP given
  iintro ⟨#Hlv, -, ⟨Hn, Hp, Ha, Hb, He⟩, ⟨⟨%f0, H0⟩, ⟨%f1, H1⟩, ⟨%f2, H2⟩, ⟨%f3, H3⟩, ⟨%f4, H4⟩, Hbufs⟩, ⟨Hs0, Hs1, Hs2, Hs3, Hs5, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hns := (pointsTo_split_subset (q := sh (wL L)) (f := N) (S := Finset.univ) (Finset.subset_univ (nRowK L).view.set)).1 $$ Hn
  icases Hns with ⟨Hn, Hnr⟩
  iapply (wp_wand frame (wpE (defs₀ (F := F)) 𝒱₀ (V d (cV L) (jV L)) none)) $$ [Hmw Hn Hp Ha Hb He H0 H1 H2 H3 H4 Hs0 Hs1 Hs2 Hs3 Hs5 HO]
  · iapply (tile_core d L (sh (wL L)) f0 f1 f2 f3 f4 (m (aLoc d)) (m (bLoc d)) (m (eLoc d)) N P _ rfl (fun y => by rw [nRowK_read]; exact hN _) O W)
    isplitl [Hmw]; · iexact Hmw
    isplitl [Hn]; · iexact Hn
    isplitl [Hp]; · iexact Hp
    isplitl [Ha]; · iapply (Entails.of_eq (pts_aRowK d L _).symm); iexact Ha
    isplitl [Hb]; · iapply (Entails.of_eq (pts_bRowK d L _).symm); iexact Hb
    isplitl [He]; · iapply (Entails.of_eq (pts_eRowK d L _).symm); iexact He
    isplitl [H0]; · iexact H0
    isplitl [H1]; · iexact H1
    isplitl [H2]; · iexact H2
    isplitl [H3]; · iexact H3
    isplitl [H4]; · iexact H4
    isplitl [Hs0]; · iexact Hs0
    isplitl [Hs1]; · iexact Hs1
    isplitl [Hs2]; · iexact Hs2
    isplitl [Hs3]; · iexact Hs3
    isplitl [Hs5]; · iexact Hs5
    iexact HO
  iintro %_ ⟨Hn, Hp, Ha, Hb, He, H0, H1, H2, H3, H4, Hs0, Hs1, Hs2, Hs3, Hs5, HO⟩
  isplitl [Hn Hnr Hp Ha Hb He]
  · isplitl [Hn Hnr]
    · iapply (pointsTo_split_subset (q := sh (wL L)) (f := N) (S := Finset.univ) (Finset.subset_univ (nRowK L).view.set)).2
      isplitl [Hn] <;> iassumption
    isplitl [Hp]; · iexact Hp
    isplitl [Ha]; · iapply (Entails.of_eq (pts_aRowK d L _)); iexact Ha
    isplitl [Hb]; · iapply (Entails.of_eq (pts_bRowK d L _)); iexact Hb
    iapply (Entails.of_eq (pts_eRowK d L _)); iexact He
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [Hs0 Hs1 Hs2 Hs3 Hs5 Hsems]
  · isplitl [Hs0]; · iexact Hs0
    isplitl [Hs1]; · iexact Hs1
    isplitl [Hs2]; · iexact Hs2
    isplitl [Hs3]; · iexact Hs3
    isplitl [Hs5]; · iexact Hs5
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_stage_b (coordsV c s)
          pV (Memref.isWhole_whole _) nV (Memref.isWhole_whole _) aV (Memref.isWhole_whole _) bV (Memref.isWhole_whole _) eV (Memref.isWhole_whole _)
            m0 (Memref.isWhole_whole _) m1 (Memref.isWhole_whole _) m2 (Memref.isWhole_whole _) m3 (Memref.isWhole_whole _) m4 (Memref.isWhole_whole _)
            cc1_scratch5 cc1_scoped0 cc1_scoped1 cc1_scoped2 cc1_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hN : ∀ y, (N y).toNat ≤ 262144) : (K (F := F)).TileObl (D (F := F)) 𝒱 (Pc m N P) v₀ 0 := by
  intro d c i O W hO _ _
  simp only [show (Pc m N P).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m N P d (coordsV ⟨_, hci.1⟩ ⟨_, hci.2⟩) hF hN O W hO).trans (wp_mono frame _ _ fun _ => obl_post)

end Task

end Cert.Proof.Seg

end
-- ==== Proof.Run.lean ====
/-
  The whole run: the launch state, @main on the TensorCore, and what the final memory holds.
-/
module

public import proofs.«01_k».proof.Proof.Vals
public import proofs.«01_k».proof.Proof.Task

@[expose] public section

noncomputable section

namespace Cert.Proof.Seg

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open StableHlo (held held_sub_split held_congr wp_hlo_within)

variable (m : (ℓ : Loc nD τ sig) → Buf (Elt F) ℓ) (ρ : Dev nD → PrngReg)

/-! ## The launch element of the ghost state -/

/-- The handshakes' rounds, the staging cells' rounds, no counter taken. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

/-- The staging cells' ghost state of a core. -/
abbrev ghost (c : Dev nD) : sProp 𝕄 :=
  iprop(Pipeline.cellsGhost (Pipeline.pin (pcfgs (F := F)) adm) EP 0 c ∗ Pipeline.toksInit (Pipeline.pin (pcfgs (F := F)) adm) EP 0 c)

abbrev PP : (K (F := F)).Pay (nD := nD) (Val := Elt F) (Name := ℕ) (U := UU) := Pc m (bnd m) (pre m)

theorem hu₀ : (ownU (u₀ (F := F)) : sProp 𝕄)
    ⊢ |={Set.univ}=> iprop(BI.own (EH (initOf (K (F := F)).hsCells (K (F := F)).hsToks)) ∗ (bigSep Finset.univ fun c : Dev nD => ghost c)
        ∗ bigSep Finset.univ fun thr : Thread nD τ => bigSep Finset.univ fun q : Fin 1 => (PP m).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HP, -⟩
  imod (show (BI.own (((Emb.inl : Emb UP (UP × Counters)).trans embR) (initOf (Pipeline.cells (Pipeline.pin (pcfgs (F := F)) adm) cellOf_inj) (Pipeline.launchToks (Pipeline.pin (pcfgs (F := F)) adm) cellOf_inj))) : sProp 𝕄) ⊢ _ from
    Pipeline.fund_ghost (Pipeline.pin (pcfgs (F := F)) adm) (EP (F := F)) cellOf_inj) $$ HP with ⟨Hc, Ht⟩
  imodintro
  isplitl [HH]; · iexact HH
  isplitl [Hc Ht]
  · have ec : (bigSep Finset.univ fun c : Dev nD => bigSep Finset.univ fun p : Fin 1 => Pipeline.cellsGhost (Pipeline.pin (pcfgs (F := F)) adm) EP p c : sProp 𝕄)
        = bigSep Finset.univ fun c : Dev nD => Pipeline.cellsGhost (Pipeline.pin (pcfgs (F := F)) adm) EP 0 c := bigSep_congr fun _ _ => bigSep_univ_of_subsingleton (0 : Fin 1)
    have et : (bigSep Finset.univ fun c : Dev nD => bigSep Finset.univ fun p : Fin 1 => Pipeline.toksInit (Pipeline.pin (pcfgs (F := F)) adm) EP p c : sProp 𝕄)
        = bigSep Finset.univ fun c : Dev nD => Pipeline.toksInit (Pipeline.pin (pcfgs (F := F)) adm) EP 0 c := bigSep_congr fun _ _ => bigSep_univ_of_subsingleton (0 : Fin 1)
    unfold ghost
    rw [bigSep_sep', ← ec, ← et]
    isplitl [Hc]; · iexact Hc
    iexact Ht
  rw [show (bigSep Finset.univ fun thr : Thread nD τ => bigSep Finset.univ fun q : Fin 1 => (PP m).x q thr) = (bigSep Finset.univ fun _ => iprop(emp) : sProp 𝕄) from
    bigSep_congr fun _ _ => bigSep_univ_of_subsingleton (0 : Fin 1), show (bigSep Finset.univ fun _ : Thread nD τ => iprop(emp)) = (iprop(emp) : sProp 𝕄) from bigSep_emp_const _]
  iempintro

/-! ## The buffers held at a valuation -/

/-- A TensorCore reference that is not scoped is among those the thread holds. -/
theorem mem_uc (b : Ref sig .tc) (h : b.isScoped = false) : (b : DevRef τ sig) ∈ ucRefs := by
  unfold ucRefs; refine Finset.mem_filter.mpr ⟨Finset.mem_map.mpr ⟨b, Finset.mem_univ _, rfl⟩, ?_⟩
  show ¬ b.isScoped = true
  rw [h]; decide

/-- So an operation over TensorCore references reads and writes only buffers the thread holds. -/
theorem sub_uc (op : HloOp τ sig (Elt F)) (h : op.bufs ⊆ StableHlo.tcRefs τ sig) : op.bufs ⊆ ucRefs := by
  intro b hb
  unfold ucRefs; refine Finset.mem_filter.mpr ⟨h hb, ?_⟩
  rw [op.no_scoped b hb]; decide

/-- The five operands of the SparseCore call. -/
abbrev T5 : Finset (DevRef τ sig) := {(main_v5 : DevRef τ sig), (main_v6 : DevRef τ sig), (main_v7_0 : DevRef τ sig), (main_v7_1 : DevRef τ sig), (main_v7_2 : DevRef τ sig)}

theorem T5_sub : T5 ⊆ ucRefs := by
  intro b hb
  simp only [T5, Finset.mem_insert, Finset.mem_singleton] at hb
  rcases hb with rfl | rfl | rfl | rfl | rfl <;> exact mem_uc _ rfl

theorem held_T5 (d : Dev nD) (W : Valuation τ sig (Elt F)) :
    (held (SparseCore.T d) T5 W : sProp 𝕄) = operands (W main_v5) (W main_v6) d (W main_v7_0) (W main_v7_1) (W main_v7_2) := by
  unfold held T5
  rw [SparseCore.bigSep_insert' (by decide), SparseCore.bigSep_insert' (by decide), SparseCore.bigSep_insert' (by decide), SparseCore.bigSep_insert' (by decide), bigSep_singleton]

/-- Before the SparseCore call the held buffers are its operands and the rest. -/
theorem held_Vd : (held (SparseCore.T d0) ucRefs (Vd m) : sProp 𝕄)
    = iprop(operands (bnd m) (pre m) d0 (m (aLoc d0)) (m (bLoc d0)) (m (eLoc d0)) ∗ held (SparseCore.T d0) (ucRefs \ T5) (Vd m)) := by
  rw [held_sub_split _ T5_sub, held_T5, Vd_v7_0, Vd_v7_1, Vd_v7_2]; rfl

/-- After it, its operands with the results and the rest. -/
theorem held_Ve : (held (SparseCore.T d0) ucRefs (Ve m) : sProp 𝕄)
    = iprop(operands (bnd m) (pre m) d0 (segOut 0 (bnd m) (pre m)) (segOut 1 (bnd m) (pre m)) (segOut 2 (bnd m) (pre m)) ∗ held (SparseCore.T d0) (ucRefs \ T5) (Vd m)) := by
  have e5 : Ve m main_v5 = bnd m := by unfold Ve; rw [update_ref, update_ref, update_ref] <;> first | rfl | decide
  have e6 : Ve m main_v6 = pre m := by unfold Ve; rw [update_ref, update_ref, update_ref] <;> first | rfl | decide
  have hrest : (held (SparseCore.T d0) (ucRefs \ T5) (Ve m) : sProp 𝕄) = held (SparseCore.T d0) (ucRefs \ T5) (Vd m) := held_congr _ fun b hb => by
    have hn := (Finset.mem_sdiff.mp hb).2
    unfold Ve
    rw [Function.update_of_ne (fun h => hn (by rw [h]; decide)), Function.update_of_ne (fun h => hn (by rw [h]; decide)), Function.update_of_ne (fun h => hn (by rw [h]; decide))]
  rw [held_sub_split _ T5_sub, held_T5, Ve_v7_0, Ve_v7_1, Ve_v7_2, e5, e6, hrest]

theorem held_Va : (unscopedBufs d0 (fun b => m ((SparseCore.T d0).loc b)) : sProp 𝕄) = held (SparseCore.T d0) ucRefs (Va m) :=
  unscopedBufs_held d0 (Va m)

/-! ## The TensorCore kernel's call -/

/-- The call, from the valuation before it to the one after it. -/
def regV : Pipeline.RegionSeg (pcfgs (F := F)) adm (pdats (Vb m)) none defs₀ 𝒱₀ (K (F := F)).L (K (F := F)).lev 0 :=
  reg (Vb m) (Vc m) (fun c => by obtain rfl : c = d0 := Subsingleton.elim _ _; exact Function.update_self _ _ _) (fun b hb => update_ref _ _ _ _ hb)

theorem regV_pre : (regV m).pre d0 = iprop(unscopedBufs d0 (fun b => Vb m b) ∗ owesBefore d0) := rfl
theorem regV_post : (regV m).post d0 = iprop(unscopedBufs d0 (fun b => Vc m b) ∗ owesBefore d0) := rfl

theorem regV_wp (Q : PUnit → sProp 𝕄) :
    (iprop((iprop(boundary (d0.tc : Thread nD τ) ∗ (regV m).post d0) -∗ wp frame (wpE (D (F := F)) 𝒱 (d0.tc : Thread nD τ) none) Set.univ (.ret ⟨⟩) Q)
        ∗ boundary (d0.tc : Thread nD τ) ∗ (regV m).pre d0 ∗ levAts (K (F := F)).L (K (F := F)).lev
        ∗ Pipeline.cellsGhost (Pipeline.pin (pcfgs (F := F)) adm) EP 0 d0 ∗ Pipeline.toksInit (Pipeline.pin (pcfgs (F := F)) adm) EP 0 d0) : sProp 𝕄)
      ⊢ wp frame (wpE (D (F := F)) 𝒱 (d0.tc : Thread nD τ) none) Set.univ (.op (.customCall (Pipeline.entry 0) ()) fun u => .ret u) Q :=
  Pipeline.RegionSeg.wp (pcfgs (F := F)) adm (pdats (Vb m)) none cellOf_inj EP defs₀ 𝒱₀ (K (F := F)).L (K (F := F)).lev
    (regV m) d0 none (fun _ h => by cases h) (fun u => .ret u) Q

/-- The call in the program's own labels, and as @main spells it. -/
abbrev callP : Prog (TpuEff nD τ sig (Elt F) (ΛP (F := F)) .tc) PUnit := .op (.customCall (Pipeline.entry 0) ()) fun u => .ret u
theorem lift_callP : (Prog.lift (.customCall (SparseCore.inner (Pipeline.entry 0)) ()) : Prog (TpuEff nD τ sig (Elt F) (SparseCore.Sig (ΛP (F := F)) 1) .tc) PUnit) = SparseCore.liftProg callP := rfl

/-- The call as @main spells it, over the held buffers. -/
theorem reg_wp (Q : PUnit → sProp 𝕄) :
    (iprop((iprop(boundary (SparseCore.T d0) ∗ held (SparseCore.T d0) ucRefs (Vc m) ∗ owesBefore d0) -∗ Q ⟨⟩)
        ∗ boundary (SparseCore.T d0) ∗ held (SparseCore.T d0) ucRefs (Vb m) ∗ owesBefore d0 ∗ levAts (K (F := F)).L (K (F := F)).lev ∗ ghost d0) : sProp 𝕄)
      ⊢ wp frame (wpE ((K (F := F)).defs (D (F := F))) 𝒱 (SparseCore.T d0) none) Set.univ (Prog.lift (.customCall (SparseCore.inner (Pipeline.entry 0)) ())) Q := by
  rw [lift_callP]
  have h := (regV_wp m Q).trans ((K (F := F)).wp_liftProg (D (F := F)) 𝒱 (SparseCore.T d0) Set.univ none callP Q)
  rw [regV_pre, regV_post, unscopedBufs_held d0 (Vb m), unscopedBufs_held d0 (Vc m)] at h
  iintro ⟨Hk, Hb, Hh, HO, Hl, Hc, Ht⟩
  iapply h
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hc]; · iexact Hc
  iexact Ht

/-! ## @main -/

/-- What @main leaves: every buffer the thread holds, at the final valuation. -/
abbrev FIN (_ : Dev nD) : sProp 𝕄 := held (SparseCore.T d0) ucRefs (Vf m)

theorem hmain (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = d0 := Subsingleton.elim _ _
  unfold SparseCore.Cfg.tcRes SparseCore.Cfg.tcEnd
  rw [held_Va]
  simp only [main, wp_bind, wp_pure]
  iintro ⟨#Hctx, Hst, ⟨Hb, Hh, Hts, -⟩, Hg⟩
  iapply (wp_hlo_within 𝒱 (SparseCore.T d0) none Set.univ (op := opT) (S := ucRefs) (sub_uc _ (StableHlo.unary_bufs_sub ..)) (V := Va m)) $$ [Hb Hh]
  · isplitl [Hb] <;> iassumption
  iintro ⟨Hb, Hh⟩
  rw [wp_ret]; imodintro
  iapply (wp_hlo_within 𝒱 (SparseCore.T d0) none Set.univ (op := opX) (S := ucRefs) (sub_uc _ (StableHlo.reshape_bufs_sub ..))) $$ [Hb Hh]
  · isplitl [Hb] <;> iassumption
  iintro ⟨Hb, Hh⟩
  rw [wp_ret]; imodintro
  iapply (wp_hlo_within 𝒱 (SparseCore.T d0) none Set.univ (op := opW) (S := ucRefs) (sub_uc _ (StableHlo.reshape_bufs_sub ..))) $$ [Hb Hh]
  · isplitl [Hb] <;> iassumption
  iintro ⟨Hb, Hh⟩
  rw [wp_ret]; imodintro
  ihave #Hlev := ((K (F := F)).ctx_levAts κ) $$ Hctx
  unfold SparseCore.Cfg.tcSt
  icases Hst with ⟨HO, Hst⟩
  iapply (reg_wp m _)
  isplitr [Hb Hh HO Hg]
  swap
  · isplitl [Hb]; · iexact Hb
    isplitl [Hh]; · iexact Hh
    isplitl [HO]; · iexact HO
    isplitr; · iexact Hlev
    iexact Hg
  iintro ⟨Hb, Hh, HO⟩
  iapply (wp_hlo_within 𝒱 (SparseCore.T d0) none Set.univ (op := opC) (S := ucRefs) (sub_uc _ (StableHlo.nullary_bufs_sub ..)) (V := Vc m)) $$ [Hb Hh]
  · isplitl [Hb] <;> iassumption
  iintro ⟨Hb, Hh⟩
  rw [wp_ret]; imodintro
  iapply (wp_hlo_within 𝒱 (SparseCore.T d0) none Set.univ (op := opB) (S := ucRefs) (sub_uc _ (StableHlo.unary_bufs_sub ..))) $$ [Hb Hh]
  · isplitl [Hb] <;> iassumption
  iintro ⟨Hb, Hh⟩
  rw [wp_ret]; imodintro
  iapply (wp_hlo_within 𝒱 (SparseCore.T d0) none Set.univ (op := opN) (S := ucRefs) (sub_uc _ (StableHlo.binary_bufs_sub ..))) $$ [Hb Hh]
  · isplitl [Hb] <;> iassumption
  iintro ⟨Hb, Hh⟩
  rw [wp_ret]; imodintro
  iapply (wp_hlo_within 𝒱 (SparseCore.T d0) none Set.univ (op := opP) (S := ucRefs) (sub_uc _ (StableHlo.reshape_bufs_sub ..))) $$ [Hb Hh]
  · isplitl [Hb] <;> iassumption
  iintro ⟨Hb, Hh⟩
  rw [wp_ret]; imodintro
  ihave Hh := (show (held (SparseCore.T d0) ucRefs (opP.result (opN.result (opB.result (opC.result (Vc m))))) : sProp 𝕄) ⊢ _ from Entails.of_eq (held_Vd m)) $$ Hh
  icases Hh with ⟨Hops, Hrest⟩
  iapply ((K (F := F)).wp_run (D (F := F)) 𝒱 (EH := EH) (P := PP m) κ d0 0) $$ [Hst HO Hops Hrest Hb Hts]
  isplitr; · iexact Hctx
  isplitl [Hst HO]
  · unfold SparseCore.Cfg.tcSt
    isplitl [HO]; · iexact HO
    iexact Hst
  isplitl [Hops]; · rw [st_eq]; iexact Hops
  iintro ⟨Hst, Hdn⟩
  ihave Hdn' := (Entails.of_eq (dn_eq m (bnd m) (pre m) d0)) $$ Hdn
  ihave Hh := (Entails.of_eq (held_Ve m).symm) $$ [Hdn' Hrest]
  · isplitl [Hdn'] <;> iassumption
  iapply (wp_hlo_within 𝒱 (SparseCore.T d0) none Set.univ (op := opO0) (S := ucRefs) (sub_uc _ (StableHlo.unary_bufs_sub ..)) (V := Ve m)) $$ [Hb Hh]
  · isplitl [Hb] <;> iassumption
  iintro ⟨Hb, Hh⟩
  rw [wp_ret]; imodintro
  iapply (wp_hlo_within 𝒱 (SparseCore.T d0) none Set.univ (op := opO1) (S := ucRefs) (sub_uc _ (StableHlo.unary_bufs_sub ..))) $$ [Hb Hh]
  · isplitl [Hb] <;> iassumption
  iintro ⟨Hb, Hh⟩
  rw [wp_ret]; imodintro
  iapply (wp_hlo_within 𝒱 (SparseCore.T d0) none Set.univ (op := opO2) (S := ucRefs) (sub_uc _ (StableHlo.unary_bufs_sub ..))) $$ [Hb Hh]
  · isplitl [Hb] <;> iassumption
  iintro ⟨Hb, Hh⟩
  rw [wp_ret]; imodintro
  iapply (wp_hlo_within 𝒱 (SparseCore.T d0) none Set.univ (op := opS) (S := ucRefs) (sub_uc _ (StableHlo.nary_bufs_sub ..))) $$ [Hb Hh]
  · isplitl [Hb] <;> iassumption
  iintro ⟨Hb, Hh⟩
  rw [wp_ret]; imodintro
  imodintro
  isplitl [Hst]; · unfold SparseCore.Cfg.tcSt; iexact Hst
  isplitl [Hh]; · iexact Hh
  isplitl [Hb] <;> iassumption

/-! ## What the final memory holds -/

/-- A held buffer is in memory as the valuation says. -/
theorem held_mem (W : Valuation τ sig (Elt F)) (b : Ref sig .tc) (hb : b.isScoped = false) (s' : Phys nD τ sig (Elt F)) :
    (iprop(held (SparseCore.T d0) ucRefs W ∗ SI s') : sProp 𝕄) ⊢ ⌜s'.mem.mem ((SparseCore.T d0).loc b) = W b⌝ := by
  iintro ⟨Hh, HSI⟩
  ihave Hb := (show (held (SparseCore.T d0) ucRefs W : sProp 𝕄) ⊢ ((SparseCore.T d0).loc b ↦{fullShare} W b) from
    bigSep_elim (Φ := fun x : DevRef τ sig => ((d0, x) : Loc nD τ sig) ↦{fullShare} W x) (mem_uc b hb)) $$ Hh
  ihave H := (SI_pointsTo_agree (st := s') (ℓ := (SparseCore.T d0).loc b) (I := Finset.univ) (q := fullShare) (f := W b)) $$ [HSI Hb]
  · isplitl [HSI] <;> iassumption
  icases H with %hx
  ipureintro; exact funext fun i => hx i (Finset.mem_univ i)

/-- The arguments unchanged, the result at the final valuation. -/
def fqM (s' : MemSt nD τ sig (Elt F)) : Prop :=
  s'.mem (vLoc d0) = m (vLoc d0) ∧ s'.mem (wLoc d0) = m (wLoc d0) ∧ s'.mem (cuLoc d0) = m (cuLoc d0) ∧ s'.mem (rLoc d0) = Vf m main_v11
def fq (_ : Dev nD) (s' : Phys nD τ sig (Elt F)) : Prop := fqM m s'.mem

theorem hfin (d : Dev nD) (s' : Phys nD τ sig (Elt F)) : iprop(FIN m d ∗ SI s') ⊢ (⌜fq m d s'⌝ : sProp 𝕄) := by
  iintro H
  ihave H := (persistent_entails_right (held_mem (Vf m) main_arg0 rfl s')) $$ H
  icases H with ⟨%h0, H⟩
  ihave H := (persistent_entails_right (held_mem (Vf m) main_arg1 rfl s')) $$ H
  icases H with ⟨%h1, H⟩
  ihave H := (persistent_entails_right (held_mem (Vf m) main_arg2 rfl s')) $$ H
  icases H with ⟨%h2, H⟩
  ihave H := (held_mem (Vf m) main_v11 rfl s') $$ H
  icases H with %h3
  ipureintro
  exact ⟨h0.trans (Vf_arg0 m), h1.trans (Vf_arg1 m), h2.trans (Vf_arg2 m), h3⟩

/-! ## The run -/

/-- The arguments are unchanged, the result is the three stacked columns, and every counter is zero. -/
def QC : PUnit × MemSt nD τ sig (Elt F) → Prop := fun r => fqM m r.2 ∧ r.2.sem = fun _ => 0

theorem run_main [∀ e, Nonempty (Elt F e)] (hN : ∀ y, (bnd m y).toNat ≤ 262144) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl m (bnd m) (pre m) facts hN)
    (fun q _ => match q with | 0 => SparseCore.Cfg.VecSplit.of_plain (vecSplit m (bnd m) (pre m)))
    m ρ main (fun c => ghost c) (FIN m) (u₀ (F := F)) (sep_elim_left.trans (hu₀ m)) (hmain m ρ) (fq m) (hfin m) (QC m) (fun _ h hz => ⟨h d0, hz⟩)

end Cert.Proof.Seg

end
-- ==== Proof.Ref.lean ====
/-
  The reference's run: the operations of its program in order, and what they leave in its result and its arguments.
-/
module

public import proofs.«01_k».proof.Defs
public import proofs.«01_k».proof.Proof.Gen.ReferenceIdeal
public import Idealize.ShloMosaic.Lib.Claim

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The reference's operations, in order. -/
def ops : List (HloOp τ sig (Elt F)) :=
  [ StableHlo.unary main_arg2 main_v0 ((extractStridedSlice S8192 ![1] · slices_S8193_S8192_1) : (⟨S8193, .i32⟩ : BufTy).Contents (Elt F) → (⟨S8192, .i32⟩ : BufTy).Contents (Elt F)),
    StableHlo.unary main_v0 main_v1 (broadcastInDim S1x8192 ![1] bcast_S8192_S1x8192_1 : (⟨S8192, .i32⟩ : BufTy).Contents (Elt F) → (⟨S1x8192, .i32⟩ : BufTy).Contents (Elt F)),
    StableHlo.nullary main_v2 (iotaInDim S262144 32 0),
    StableHlo.unary main_v2 main_v3 (broadcastInDim S262144x1 ![0] bcast_S262144_S262144x1_0 : (⟨S262144, .i32⟩ : BufTy).Contents (Elt F) → (⟨S262144x1, .i32⟩ : BufTy).Contents (Elt F)),
    StableHlo.unary main_v1 main_v4 (broadcastInDim S262144x8192 ![0, 1] bcast_S1x8192_S262144x8192_0_1 : (⟨S1x8192, .i32⟩ : BufTy).Contents (Elt F) → (⟨S262144x8192, .i32⟩ : BufTy).Contents (Elt F)),
    StableHlo.unary main_v3 main_v5 (broadcastInDim S262144x8192 ![0, 1] bcast_S262144x1_S262144x8192_0_1 : (⟨S262144x1, .i32⟩ : BufTy).Contents (Elt F) → (⟨S262144x8192, .i32⟩ : BufTy).Contents (Elt F)),
    StableHlo.binary main_v4 main_v5 main_v6 (cmpi .sle : (⟨S262144x8192, .i32⟩ : BufTy).Contents (Elt F) → (⟨S262144x8192, .i32⟩ : BufTy).Contents (Elt F) → (⟨S262144x8192, .i1⟩ : BufTy).Contents (Elt F)),
    StableHlo.unary main_v6 main_v7 ((extui 32 · natLt_1_32) : (⟨S262144x8192, .i1⟩ : BufTy).Contents (Elt F) → (⟨S262144x8192, .i32⟩ : BufTy).Contents (Elt F)),
    StableHlo.nullary main_c (constantI S_ 32 0#32),
    StableHlo.binary main_v7 main_c main_v8 ((fun x v => Host.reduce IntOp.addi x v reducesTo_S262144x8192_S262144_d1 h_S_) : (⟨S262144x8192, .i32⟩ : BufTy).Contents (Elt F) → (⟨S_, .i32⟩ : BufTy).Contents (Elt F) → (⟨S262144, .i32⟩ : BufTy).Contents (Elt F)),
    StableHlo.unary main_arg1 main_v9 (broadcastInDim S262144x3 ![0, 1] bcast_S262144x1_S262144x3_0_1 : (⟨S262144x1, .f32⟩ : BufTy).Contents (Elt F) → (⟨S262144x3, .f32⟩ : BufTy).Contents (Elt F)),
    StableHlo.binary main_arg0 main_v9 main_v10 (mulf : (⟨S262144x3, .f32⟩ : BufTy).Contents (Elt F) → (⟨S262144x3, .f32⟩ : BufTy).Contents (Elt F) → (⟨S262144x3, .f32⟩ : BufTy).Contents (Elt F)),
    StableHlo.nullary main_cst (constant S_ .f32 0x00000000#32),
    StableHlo.unary main_cst main_v11 (broadcastInDim S8192x3 ![] bcast_S_S8192x3 : (⟨S_, .f32⟩ : BufTy).Contents (Elt F) → (⟨S8192x3, .f32⟩ : BufTy).Contents (Elt F)),
    StableHlo.unary main_v8 main_v12 (broadcastInDim S262144x1 ![0] bcast_S262144_S262144x1_0 : (⟨S262144, .i32⟩ : BufTy).Contents (Elt F) → (⟨S262144x1, .i32⟩ : BufTy).Contents (Elt F)),
    StableHlo.ternary main_v11 main_v12 main_v10 main_v13 ((fun x i u => Host.scatterAdd scatter_S8192x3_S262144x1_S262144x3_1_0_0_1 x i u) : (⟨S8192x3, .f32⟩ : BufTy).Contents (Elt F) → (⟨S262144x1, .i32⟩ : BufTy).Contents (Elt F) → (⟨S262144x3, .f32⟩ : BufTy).Contents (Elt F) → (⟨S8192x3, .f32⟩ : BufTy).Contents (Elt F)) ]

theorem main_eq (c : Dev nD) : main (F := F) c = seq ops := by
  simp only [main, seq, ops]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., unary_bufs_sub .., unary_bufs_sub .., binary_bufs_sub .., unary_bufs_sub .., nullary_bufs_sub .., binary_bufs_sub .., unary_bufs_sub .., binary_bufs_sub .., nullary_bufs_sub .., unary_bufs_sub .., unary_bufs_sub .., ternary_bufs_sub ..⟩

/-- Every buffer of the reference ends at what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) : after ops V (main_arg0 : DevRef τ sig) = V (main_arg0 : DevRef τ sig) := by
  unfold ops; after_results
theorem arg1_eq (V : Valuation τ sig (Elt F)) : after ops V (main_arg1 : DevRef τ sig) = V (main_arg1 : DevRef τ sig) := by
  unfold ops; after_results
theorem arg2_eq (V : Valuation τ sig (Elt F)) : after ops V (main_arg2 : DevRef τ sig) = V (main_arg2 : DevRef τ sig) := by
  unfold ops; after_results

/-- The ray of each sample, as the reference computes it: how many of the rays' ends lie at or before the sample. -/
def rayOf (cu : S8193.Idx → BitVec 32) : S262144.Idx → BitVec 32 :=
  Host.reduce IntOp.addi (extui 32 (cmpi .sle
      (broadcastInDim S262144x8192 ![0, 1] bcast_S1x8192_S262144x8192_0_1 (broadcastInDim S1x8192 ![1] bcast_S8192_S1x8192_1 (extractStridedSlice S8192 ![1] cu slices_S8193_S8192_1)))
      (broadcastInDim S262144x8192 ![0, 1] bcast_S262144x1_S262144x8192_0_1 (broadcastInDim S262144x1 ![0] bcast_S262144_S262144x1_0 (iotaInDim S262144 32 0)))) natLt_1_32)
    (constantI S_ 32 0#32) reducesTo_S262144x8192_S262144_d1 h_S_

/-- The weighted samples. -/
def weighted (v : FVec F S262144x3 .f32) (w : FVec F S262144x1 .f32) : FVec F S262144x3 .f32 :=
  mulf v (broadcastInDim S262144x3 ![0, 1] bcast_S262144x1_S262144x3_0_1 w)

/-- The reference's result: the weighted samples added up by ray. -/
def refOut (v : FVec F S262144x3 .f32) (w : FVec F S262144x1 .f32) (cu : S8193.Idx → BitVec 32) : FVec F S8192x3 .f32 :=
  Host.scatterAdd scatter_S8192x3_S262144x1_S262144x3_1_0_0_1 (broadcastInDim S8192x3 ![] bcast_S_S8192x3 (constant S_ .f32 0x00000000#32))
    (broadcastInDim S262144x1 ![0] bcast_S262144_S262144x1_0 (rayOf cu)) (weighted v w)

theorem out_eq (V : Valuation τ sig (Elt F)) : after ops V (main_v13 : DevRef τ sig) =
    refOut (V (main_arg0 : DevRef τ sig)) (V (main_arg1 : DevRef τ sig)) (V (main_arg2 : DevRef τ sig)) := by
  unfold ops; after_results; rfl

end Cert.Proof.Ref

end
-- ==== Proof.Frames.lean ====
/-
  The frames: the kernel, its idealization and the reference run, leave their arguments unchanged and every counter at zero.
-/
module

public import proofs.«01_k».proof.Proof.Pre
public import proofs.«01_k».proof.Proof.Run
public import proofs.«01_k».proof.Proof.Gen.Kernel
public import proofs.«01_k».proof.Proof.Ref
public import Idealize.ShloMosaic.Lib.Claim
public import Idealize.ShloMosaic.Lib.Tactic

@[expose] public section

noncomputable section

namespace Cert.Proof.Seg

open Idealize.ShloMosaic Idealize.SL.Sem

/-- What the run theorem says of the arguments and the counters, on the one device. -/
theorem frame_of_run {F : FTy → Type} [FloatOps F] {m : (ℓ : Loc KernelIdeal.nD KernelIdeal.τ KernelIdeal.sig) → Buf (Elt F) ℓ}
    {r : PUnit × MemSt KernelIdeal.nD KernelIdeal.τ KernelIdeal.sig (Elt F)} (h : QC m r) :
    (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0 := by
  refine ⟨fun c => ?_, h.2⟩
  obtain rfl : c = d0 := Subsingleton.elim _ _
  exact ⟨h.1.1, h.1.2.1, h.1.2.2.1⟩

/-- The kernel's frame, of the program's text read in the idealization's names: the two texts are one. -/
def FrameBits : Prop :=
  ∀ (m : (ℓ : Loc KernelIdeal.nD KernelIdeal.τ KernelIdeal.sig) → Buf (Elt Bits) ℓ) (g : Dev KernelIdeal.nD → PrngReg),
    (∀ c : Dev KernelIdeal.nD, (Cert.Pre_offsets_in_range.fn (F := Bits) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))) = (fun _ => 1#1)) →
    θ_run (Cert.KernelIdeal.defs (F := Bits)) (Cert.KernelIdeal.threads (F := Bits)) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0)

theorem frameBits_eq : Cert.quiescent_Kernel = FrameBits := by sl_kernel_rfl

theorem frameBits : FrameBits := fun m ρ h =>
  (θ_run (Cert.KernelIdeal.defs (F := Bits)) _ _).mono (fun _ h => frame_of_run h)
    (run_main (F := Bits) m ρ (bnd_le m (range_of_offsets (h d0))))

/-- The kernel's frame. -/
theorem frame_kernel : Cert.quiescent_Kernel := frameBits_eq.mpr frameBits

/-- The idealization's frame. -/
theorem frame_ideal : Cert.quiescent_KernelIdeal := fun m ρ h =>
  (θ_run (Cert.KernelIdeal.defs (F := Ideal)) _ _).mono (fun _ h => frame_of_run h)
    (run_main (F := Ideal) m ρ (bnd_le m (range_of_offsets (h d0))))

/-- The reference's frame. -/
theorem frame_reference : Cert.quiescent_ReferenceIdeal := fun m ρ _ =>
  (θ_run Cert.ReferenceIdeal.defs _ _).mono (fun r h =>
      ⟨fun c => ⟨(h c Cert.ReferenceIdeal.main_arg0).trans (Ref.arg0_eq _), (h c Cert.ReferenceIdeal.main_arg1).trans (Ref.arg1_eq _),
        (h c Cert.ReferenceIdeal.main_arg2).trans (Ref.arg2_eq _)⟩, sem_eq_zero_of_no_sems (by decide) r.2⟩)
    (Ref.run_main (F := Ideal) m ρ)

end Cert.Proof.Seg

end
-- ==== Proof.PreRays.lean ====
/-
  What the precondition of the equation says of the arguments, as plain facts.
-/
module

public import proofs.«01_k».proof.Defs
public import proofs.«01_k».proof.Proof.Gen.Pre_rays
public import proofs.«01_k».proof.Proof.Pre
public import Idealize.ShloMosaic.Lib.ReduceAll

@[expose] public section

noncomputable section

namespace Cert.Proof.Seg

open Idealize.ShloMosaic
open Idealize.ShloMosaic.IntOp (andi_eq_one)
open Cert.KernelIdeal

/-- What the second precondition says: the bounds start at 0, do not fall and stay in range; the samples and weights are finite. -/
structure Rays (v : S262144x3.Idx → EReal) (w : S262144x1.Idx → EReal) (cu : S8193.Idx → BitVec 32) : Prop where
  first : (cu (at1 8193 0)).toNat = 0
  mono : ∀ k < 8192, (cu (at1 8193 k)).toNat ≤ (cu (at1 8193 (k + 1))).toNat
  range : ∀ j, (cu j).toNat ≤ 262144
  vfin : ∀ j, v j ≠ ⊤ ∧ v j ≠ ⊥
  wfin : ∀ j, w j ≠ ⊤ ∧ w j ≠ ⊥

/-- The magnitude of a number compares below infinity only when the number is finite. -/
theorem finite_of_cmp {x : Ideal .f32} (h : FloatOps.cmpf .olt (FloatOps.hostAbsf x) (FloatOps.ofBits .f32 0x7F800000#32 : Ideal .f32) = 1#1) :
    (x : EReal) ≠ ⊤ ∧ (x : EReal) ≠ ⊥ := by
  have e : (FloatOps.ofBits .f32 0x7F800000#32 : Ideal .f32) = (⊤ : EReal) := by
    show Ideal.ofBits .f32 0x7F800000#32 = ⊤
    simp [Ideal.ofBits, Ideal.ieee]
  rw [e] at h
  have h' : max (x : EReal) (-x) < ⊤ := of_decide_eq_true ((word_eq_one _).1 h)
  rw [max_lt_iff] at h'
  refine ⟨h'.1.ne, fun hb => ?_⟩
  rw [hb] at h'; simp at h'

instance : Subsingleton S_.Idx := ⟨fun a b => funext fun k => k.elim0⟩

theorem rays_of_pre {v : FVec Ideal S262144x3 .f32} {w : FVec Ideal S262144x1 .f32} {cu : S8193.Idx → BitVec 32}
    (h : Cert.Pre_rays.fn (F := Ideal) v w cu = fun _ => 1#1) : Rays v w cu := by
  have e := congrFun h (fun k => k.elim0)
  simp only [Cert.Pre_rays.fn, Cert.Pre_rays.fn_part1, andi] at e
  obtain ⟨e, hw⟩ := andi_eq_one.1 e
  obtain ⟨e, hv⟩ := andi_eq_one.1 e
  obtain ⟨e, hl⟩ := andi_eq_one.1 e
  obtain ⟨e, hg⟩ := andi_eq_one.1 e
  obtain ⟨h0, hm⟩ := andi_eq_one.1 e
  have hl := Host.reduce_andi_all _ _ _ _ _ hl
  have hg := Host.reduce_andi_all _ _ _ _ _ hg
  have hm := Host.reduce_andi_all _ _ _ _ _ hm
  have hv := Host.reduce_andi_all _ _ _ _ _ hv
  have hw := Host.reduce_andi_all _ _ _ _ _ hw
  refine ⟨?_, ?_, fun j => range_of_cmp (hg j) (hl j), fun j => finite_of_cmp (hv j), fun j => finite_of_cmp (hw j)⟩
  · have e0 : cu (at1 8193 0) = 0#32 := by
      have := of_decide_eq_true ((word_eq_one _).1 h0)
      refine Eq.trans (congrArg cu (Eq.symm (eq_at1 (by decide) _ 0 ?_))) this
      have z : ∀ i : S1.Idx, (i 0).val = 0 := fun i => by have := (i 0).isLt; change _ < 1 at this; omega
      exact (Nat.zero_add _).trans (z _)
    rw [e0]; rfl
  · intro k hk
    have hk' : (at1 8192 k (by decide) 0).val = k := at1_val (by decide) hk
    have hr := fun j => range_of_cmp (hg j) (hl j)
    have h := le_of_cmp (hr _) (hr _) (hm (at1 8192 k))
    refine Eq.trans_le (congrArg (fun j => (cu j).toNat) (Eq.symm (eq_at1 (by decide) _ k ?_)))
      (h.trans_eq (congrArg (fun j => (cu j).toNat) (eq_at1 (by decide) _ (k + 1) ?_)))
    · exact (Nat.zero_add _).trans hk'
    · exact (Nat.add_comm 1 _).trans (congrArg (· + 1) hk')

end Cert.Proof.Seg

end
-- ==== Proof.FramesRays.lean ====
/-
  The frames that the equation brings along: the idealization and the reference from the equation's precondition.
-/
module

public import proofs.«01_k».proof.Proof.PreRays
public import proofs.«01_k».proof.Proof.Frames

@[expose] public section

noncomputable section

namespace Cert.Proof.Seg

open Idealize.ShloMosaic Idealize.SL.Sem

/-- The idealization's frame, from the second precondition. -/
theorem frame_ideal_rays : Cert.quiescent_KernelIdeal_pre_rays := fun m ρ h =>
  (θ_run (Cert.KernelIdeal.defs (F := Ideal)) _ _).mono (fun _ h => frame_of_run h)
    (run_main (F := Ideal) m ρ (bnd_le m (rays_of_pre (h d0)).range))

/-- The reference's frame, the second precondition not used. -/
theorem frame_reference_rays : Cert.quiescent_ReferenceIdeal_pre_rays := fun m ρ _ => frame_reference m ρ trivial

end Cert.Proof.Seg

end
-- ==== Proof.Sums.lean ====
/-
  Sums of real numbers in the extended reals, and the masks of zeros and ones that cut them.
-/
module

public import proofs.«01_k».proof.Proof.Pieces
public import Idealize.ShloMosaic.Lib.Pointwise

@[expose] public section

noncomputable section

namespace Cert.Proof.Seg

open Idealize.ShloMosaic

/-- A finite sum of real numbers is the same taken among the extended reals. -/
theorem coe_sum {ι : Type} (s : Finset ι) (g : ι → ℝ) : (∑ k ∈ s, (g k : EReal)) = ((∑ k ∈ s, g k : ℝ) : EReal) := by
  classical
  induction s using Finset.induction_on with
  | empty => rfl
  | insert a s ha ih => rw [Finset.sum_insert ha, Finset.sum_insert ha, ih, EReal.coe_add]

/-- The number made of a bit: one if it is set, zero if not. -/
theorem number_of_bit (b : Bool) : (FloatOps.sitofp (F := Ideal) .f32 (BitVec.setWidth 32 (BitVec.ofBool b)) : EReal) = ((if b then (1 : ℝ) else 0 : ℝ) : EReal) := by
  cases b
  · show (((0 : ℤ) : ℝ) : EReal) = _; simp
  · show (((1 : ℤ) : ℝ) : EReal) = _; simp

/-- A number below two to the thirty-one read back as a signed integer. -/
theorem toInt_small (n : ℕ) (h : n < 2147483648) : (BitVec.ofNat 32 n).toInt = n := by
  rw [BitVec.toInt_eq_toNat_cond, BitVec.toNat_ofNat]; omega

/-- The mask entry of «at most». -/
theorem mask_le (a b : ℕ) (ha : a < 1024) (hb : b < 1024) :
    (FloatOps.sitofp (F := Ideal) .f32 (BitVec.setWidth 32 (IntOp.cmpi .sle (BitVec.ofNat 32 a) (BitVec.ofNat 32 b))) : EReal) = ((if a < b + 1 then (1 : ℝ) else 0 : ℝ) : EReal) := by
  refine (number_of_bit _).trans (congrArg _ ?_)
  show (if BitVec.sle _ _ = true then (1 : ℝ) else 0) = _
  refine if_congr ?_ rfl rfl
  rw [BitVec.sle_iff_toInt_le, toInt_small _ (by omega), toInt_small _ (by omega)]; omega

/-- The mask entry of «less than». -/
theorem mask_lt (a b : ℕ) (ha : a < 1024) (hb : b < 1024) :
    (FloatOps.sitofp (F := Ideal) .f32 (BitVec.setWidth 32 (IntOp.cmpi .slt (BitVec.ofNat 32 a) (BitVec.ofNat 32 b))) : EReal) = ((if a < b then (1 : ℝ) else 0 : ℝ) : EReal) := by
  refine (number_of_bit _).trans (congrArg _ ?_)
  show (if BitVec.slt _ _ = true then (1 : ℝ) else 0) = _
  refine if_congr ?_ rfl rfl
  rw [BitVec.slt_iff_toInt_lt, toInt_small _ (by omega), toInt_small _ (by omega)]; omega

/-- A sum against a mask that keeps the first `m` terms is the sum of the first `m` terms. -/
theorem sum_masked (n m : ℕ) (h : m ≤ n) (g : ℕ → ℝ) : (∑ k : Fin n, g k.val * (if k.val < m then (1 : ℝ) else 0)) = ∑ i ∈ Finset.range m, g i := by
  rw [Fin.sum_univ_eq_sum_range (fun i => g i * (if i < m then (1 : ℝ) else 0)) n]
  simp only [mul_ite, mul_one, mul_zero]
  rw [← Finset.sum_filter]
  refine Finset.sum_congr (Finset.ext fun i => ?_) fun _ _ => rfl
  rw [Finset.mem_filter, Finset.mem_range, Finset.mem_range]; omega

/-- A sum taken row by row, the rows `b` long, is the sum straight through. -/
theorem sum_rows (b m : ℕ) (g : ℕ → ℝ) : (∑ r ∈ Finset.range m, ∑ i ∈ Finset.range b, g (b * r + i)) = ∑ i ∈ Finset.range (b * m), g i := by
  induction m with
  | zero => rfl
  | succ m ih => rw [Finset.sum_range_succ, ih, Nat.mul_succ, Finset.sum_range_add]

/-- A sum of real terms against real mask entries. -/
theorem sum_coe_mul {n : ℕ} (u v : Fin n → EReal) (g h : Fin n → ℝ) (hu : ∀ k, u k = (g k : EReal)) (hv : ∀ k, v k = (h k : EReal)) :
    (∑ k, u k * v k) = ((∑ k, g k * h k : ℝ) : EReal) := by
  rw [← coe_sum]
  exact Finset.sum_congr rfl fun k _ => by rw [hu, hv, EReal.coe_mul]

end Cert.Proof.Seg

end
-- ==== Proof.Block.lean ====
/-
  One block of the running sums over the extended reals: what the block's products and slices come to when every product
  of a value and its weight is a real number.
-/
module

public import proofs.«01_k».proof.Proof.Body
public import proofs.«01_k».proof.Proof.Sums

@[expose] public section

noncomputable section

namespace Cert.Proof.Seg

open Cert.KernelIdeal Cert.KernelIdeal.Gen
open Idealize.ShloMosaic

/-- The block's weighted values are the real numbers `f`: component `c`, row `r` and lane `l` is term `128 r + l` of the
    component's sequence. -/
def Weighted (x : Vec Ideal S3x256x128 .f32) (w : Vec Ideal S256x128 .f32) (f : Fin 3 → ℕ → ℝ) : Prop :=
  ∀ (c : Fin 3) (r : Fin 256) (l : Fin 128), x (ix3 c r l) * w (ix2 r l) = ((f c (128 * r.val + l.val) : ℝ) : EReal)

variable {x : Vec Ideal S3x256x128 .f32} {w : Vec Ideal S256x128 .f32} {f : Fin 3 → ℕ → ℝ}

/-- Row `256 c + r` and lane `l` of the product with the triangle of ones: the sum of the row's first `l + 1` terms. -/
theorem row_sums (h : Weighted x w f) (c : Fin 3) (r : Fin 256) (l : Fin 128) (q : Fin 768) (hq : q.val = 256 * c.val + r.val) :
    k0_pay2 (F := Ideal) x w (ix2 q l) = ((∑ i ∈ Finset.range (l.val + 1), f c (128 * r.val + i) : ℝ) : EReal) := by
  let c' : Fin 3 := ⟨q.val / 256, by omega⟩
  let r' : Fin 256 := ⟨q.val % 256, by omega⟩
  have hc : c' = c := Fin.ext (by show q.val / 256 = c.val; omega)
  have hr : r' = r := Fin.ext (by show q.val % 256 = r.val; omega)
  have h' : ∀ k, x (ix3 c' r' k) * w (ix2 r' k) = ((f c (128 * r.val + k.val) : ℝ) : EReal) := fun k => by rw [hc, hr]; exact h c r k
  pointwise [k0_pay2]
  have e1 := sum_coe_mul (fun k : Fin 128 => x (ix3 c' r' k) * w (ix2 r' k)) _ (fun k => f c (128 * r.val + k.val)) _ h'
    (fun k => mask_le k.val l.val (by omega) (by omega))
  have e2 := sum_coe_mul (fun k : Fin 128 => x (ix3 c' r' k) * w (ix2 r' k) - x (ix3 c' r' k) * w (ix2 r' k)) _ (fun _ => 0) _
    (fun k => by rw [h' k, ← EReal.coe_sub, sub_self]) (fun k => mask_le k.val l.val (by omega) (by omega))
  refine (congrArg₂ (· + ·) e1 e2).trans ?_
  rw [← EReal.coe_add]
  refine congrArg _ ?_
  rw [sum_masked 128 (l.val + 1) (by omega) (fun i => f c (128 * r.val + i))]
  simp only [zero_mul, Finset.sum_const_zero, add_zero]

/-- The totals of the rows. -/
theorem row_totals (h : Weighted x w f) (c : Fin 3) (r : Fin 256) :
    k0_pay3 (F := Ideal) x w (ix2 r c) = ((∑ i ∈ Finset.range 128, f c (128 * r.val + i) : ℝ) : EReal) := by
  pointwise [k0_pay3]
  have key : ∀ (q : Fin 768) (l : Fin 128), q.val = 256 * c.val + r.val → l.val = 127 →
      k0_pay2 (F := Ideal) x w (ix2 q l) = ((∑ i ∈ Finset.range 128, f c (128 * r.val + i) : ℝ) : EReal) := fun q l hq hl => by
    rw [row_sums h c r l q hq, hl]
  split
  · exact key _ _ (by show r.val = _; omega) (by show 127 + c.val = _; omega)
  · split
    · exact key _ _ (by show 256 + r.val = _; omega) (by show 127 + (c.val - 1) = _; omega)
    · exact key _ _ (by show 512 + r.val = _; omega) (by show 127 + (c.val - 1 - 1) = _; omega)

/-- The totals of all earlier rows. -/
theorem rows_before (h : Weighted x w f) (c : Fin 3) (r : Fin 256) :
    k0_pay4 (F := Ideal) x w (ix2 r c) = ((∑ i ∈ Finset.range (128 * r.val), f c i : ℝ) : EReal) := by
  pointwise [k0_pay4]
  refine (sum_coe_mul _ _ _ _ (fun k : Fin 256 => mask_lt k.val r.val (by omega) (by omega)) (fun k => row_totals h c k)).trans (congrArg _ ?_)
  refine Eq.trans (Finset.sum_congr rfl fun k _ => mul_comm _ _) ?_
  rw [sum_masked 256 r.val (by omega) (fun k => ∑ i ∈ Finset.range 128, f c (128 * k + i)), sum_rows]

/-- One component's block from the sums within rows, the rows before and the carry. -/
theorem blk3_apply (z : Fin 3 → EReal) (c : Fin 3) (r : Fin 256) (l : Fin 128) (q : Fin 768) (hq : q.val = 256 * c.val + r.val) :
    blk3 (F := Ideal) x w z c (ix3 0 r l) = k0_pay2 (F := Ideal) x w (ix2 q l) + k0_pay4 (F := Ideal) x w (ix2 r c) + z c := by
  match c, hq with
  | 0, hq =>
    show k0_pay5 (F := Ideal) x w (z 0) (ix3 0 r l) = _
    pointwise [k0_pay5]
    rw [show q = ⟨r.val, by omega⟩ from Fin.ext (hq.trans (Nat.zero_add _))]
  | 1, hq =>
    show k0_pay7 (F := Ideal) (k0_pay2 x w) (k0_pay4 x w) (z 1) (ix3 0 r l) = _
    pointwise [k0_pay7]
    rw [show q = ⟨256 + r.val, by omega⟩ from Fin.ext hq]
  | 2, hq =>
    show k0_pay9 (F := Ideal) (k0_pay2 x w) (k0_pay4 x w) (z 2) (ix3 0 r l) = _
    pointwise [k0_pay9]
    rw [show q = ⟨512 + r.val, by omega⟩ from Fin.ext hq]

/-- The running sums of a block, the carry in front: row `r` and lane `l` is the sum of the first `128 r + l + 1` terms. -/
theorem blkOut_apply (h : Weighted x w f) (z : Fin 3 → EReal) (zr : Fin 3 → ℝ) (hz : ∀ c, z c = (zr c : EReal)) (c : Fin 3) (r : Fin 256) (l : Fin 128) :
    blkOut (F := Ideal) x w z (ix3 c r l) = ((zr c + ∑ i ∈ Finset.range (128 * r.val + l.val + 1), f c i : ℝ) : EReal) := by
  have e : i3 r l = ix3 0 r l := by funext a; match a with | 0 => rfl | 1 => rfl | 2 => rfl
  show blk3 (F := Ideal) x w z c (i3 r l) = _
  rw [e, blk3_apply z c r l ⟨256 * c.val + r.val, by omega⟩ rfl, row_sums h c r l _ rfl, rows_before h c r, hz, ← EReal.coe_add, ← EReal.coe_add]
  refine congrArg _ ?_
  rw [show 128 * r.val + l.val + 1 = 128 * r.val + (l.val + 1) from rfl, Finset.sum_range_add (f c) (128 * r.val) (l.val + 1)]
  ring

/-- A carry after the block: the carry before and the totals of all rows. -/
theorem carry3_sum (z : Fin 3 → EReal) (c : Fin 3) : carry3 (F := Ideal) x w z c = z c + ∑ k : Fin 256, k0_pay3 (F := Ideal) x w (ix2 k c) := by
  match c with
  | 0 =>
    show k0_pay6 (F := Ideal) (k0_pay3 x w) (z 0) = _
    pointwise [k0_pay6]
    simp
  | 1 =>
    show k0_pay8 (F := Ideal) (k0_pay3 x w) (z 1) = _
    pointwise [k0_pay8]
    simp
  | 2 =>
    show k0_pay1 (F := Ideal) (z 2) (k0_pay10 (k0_pay3 x w)) = _
    pointwise [k0_pay1, k0_pay10]
    simp

/-- A carry after the block is the carry before and the sum of the block's 32768 terms. -/
theorem carry3_apply (h : Weighted x w f) (z : Fin 3 → EReal) (zr : Fin 3 → ℝ) (hz : ∀ c, z c = (zr c : EReal)) (c : Fin 3) :
    carry3 (F := Ideal) x w z c = ((zr c + ∑ i ∈ Finset.range 32768, f c i : ℝ) : EReal) := by
  rw [carry3_sum, hz, Finset.sum_congr rfl fun k _ => row_totals h c k, coe_sum, ← EReal.coe_add,
    Fin.sum_univ_eq_sum_range (fun k => ∑ i ∈ Finset.range 128, f c (128 * k + i)) 256, sum_rows]

end Cert.Proof.Seg

end
-- ==== Proof.Scan.lean ====
/-
  The TensorCore kernel's result over the extended reals: the running sums of the three components.
-/
module

public import proofs.«01_k».proof.Proof.Region
public import proofs.«01_k».proof.Proof.Block
public import Idealize.ShloMosaic.Lib.Pipeline.ValueKit

@[expose] public section

noncomputable section

namespace Cert.Proof.Seg

open Cert.KernelIdeal Cert.KernelIdeal.Gen
open Idealize.ShloMosaic
open Idealize.ShloMosaic.TcCoe
open Idealize.ShloMosaic.Pipeline (Dat Cfg Window)

variable {F : FTy → Type} [FloatOps F]
variable (V : Valuation τ sig (Elt F))

/-- The blocks' places: the values' and the result's blocks go down the rows, and so do the weights'. -/
theorem blocks_at : ∀ t : Fin cfg0.N, win0_0.index t = ![0, t.val, 0] ∧ win0_1.index t = ![t.val, 0] ∧ win0_2.index t = ![0, t.val, 0] := by
  decide +kernel

/-- The block of values at point `t`: rows `256 t` on of the array of values. -/
theorem xAt_apply (t : Fin cfg0.N) (c : Fin 3) (r : Fin 256) (l : Fin 128) (q : Fin 2048) (hq : q.val = 256 * t.val + r.val) :
    xAt V t (ix3 c r l) = (V main_v1 : S3x2048x128.Idx → F .f32) (ix3 c q l) := by
  unfold xAt
  rw [View.read_apply]
  blk_ext [(blocks_at t).1]

/-- The block of weights at point `t`: rows `256 t` on of the array of weights. -/
theorem wAt_apply (t : Fin cfg0.N) (r : Fin 256) (l : Fin 128) (q : Fin 2048) (hq : q.val = 256 * t.val + r.val) :
    wAt V t (ix2 r l) = (V main_v2 : S2048x128.Idx → F .f32) (ix2 q l) := by
  unfold wAt
  rw [View.read_apply]
  blk_ext [(blocks_at t).2.1]

/-- The array of running sums of the sequences `f`: component `c`, row `q` and lane `l` is the sum of the first
    `128 q + l + 1` terms. -/
def runningSums (f : Fin 3 → ℕ → ℝ) : S3x2048x128.Idx → EReal :=
  fun y => ((∑ i ∈ Finset.range (128 * (y 1).val + (y 2).val + 1), f (y 0) i : ℝ) : EReal)

section Sums

variable (W : Valuation τ sig (Elt Ideal)) (f : Fin 3 → ℕ → ℝ)

/-- The arrays' weighted values, block by block, are the sequences `f`. -/
def AllWeighted : Prop := ∀ t : Fin cfg0.N, Weighted (xAt W t) (wAt W t) (fun c i => f c (32768 * t.val + i))

variable {W f}

/-- The carries before point `n` are the sums of all terms of the earlier blocks. -/
theorem carryAt_eq (h : AllWeighted W f) (n : ℕ) (hn : n ≤ cfg0.N) (c : Fin 3) :
    carryAt W n c = ((∑ i ∈ Finset.range (32768 * n), f c i : ℝ) : EReal) := by
  induction n generalizing c with
  | zero => exact Ideal.ofBits_zero_f32
  | succ n ih =>
    refine (congrFun (carryAt_succ W ⟨n, hn⟩) c).trans ?_
    rw [carry3_apply (h ⟨n, hn⟩) _ (fun c => ∑ i ∈ Finset.range (32768 * n), f c i) (fun c => ih (by omega) c) c, Nat.mul_succ, Finset.sum_range_add]

/-- The TensorCore kernel leaves the running sums. -/
theorem cum_eq (h : AllWeighted W f) (d : Dev nD) : cum W d = runningSums f := by
  refine Dat.arrAt_eq_of_covers (dat W d) 2 _ (by decide +kernel) fun t hf y => ?_
  blk_simp
  obtain ⟨c, r, l, rfl⟩ : ∃ (c : Fin 3) (r : Fin 256) (l : Fin 128), y = ix3 c r l := ⟨y 0, y 1, y 2, eq_ix3 y⟩
  have ht : t.val < 8 := t.isLt
  have place : ((win0_2.blk t).view.emb (ix3 c r l) : S3x2048x128.Idx) = ix3 c ⟨256 * t.val + r.val, by omega⟩ l := by
    blk_ext [(blocks_at t).2.2]
  refine Eq.trans ?_ (congrArg (runningSums f) place).symm
  show blkOut (xAt W t) (wAt W t) (carryAt W t.val) (ix3 c r l) = _
  rw [blkOut_apply (h t) _ (fun c => ∑ i ∈ Finset.range (32768 * t.val), f c i) (fun c => carryAt_eq h t.val (Nat.le_of_lt t.isLt) c),
    ← Finset.sum_range_add]
  show _ = ((∑ i ∈ Finset.range (128 * (256 * t.val + r.val) + l.val + 1), f c i : ℝ) : EReal)
  rw [show 32768 * t.val + (128 * r.val + l.val + 1) = 128 * (256 * t.val + r.val) + l.val + 1 by omega]

end Sums

end Cert.Proof.Seg

end
-- ==== Proof.KernelValue.lean ====
/-
  The kernel's result over the extended reals: each row is the difference of two running sums.
-/
module

public import proofs.«01_k».proof.Proof.Scan
public import proofs.«01_k».proof.Proof.Vals
public import proofs.«01_k».proof.Proof.PreRays

@[expose] public section

noncomputable section

namespace Cert.Proof.Seg

open Cert.KernelIdeal Cert.KernelIdeal.Gen
open Idealize.ShloMosaic
open Idealize.ShloMosaic.TcCoe

/-! ## The sequences -/

/-- Term `i` of component `c`: the sample times its weight, as a real number (zero past the last sample). -/
def term (v : S262144x3.Idx → EReal) (w : S262144x1.Idx → EReal) (c : Fin 3) (i : ℕ) : ℝ :=
  if h : i < 262144 then (v (ix2 ⟨i, h⟩ c)).toReal * (w (ix2 ⟨i, h⟩ 0)).toReal else 0

/-- The sum of the first `n` terms. -/
def upTo (v : S262144x3.Idx → EReal) (w : S262144x1.Idx → EReal) (c : Fin 3) (n : ℕ) : ℝ := ∑ i ∈ Finset.range n, term v w c i

/-- A sample times its weight is the term. -/
theorem mul_eq_term {v : S262144x3.Idx → EReal} {w : S262144x1.Idx → EReal} {cu : S8193.Idx → BitVec 32} (H : Rays v w cu) (c : Fin 3) (i : Fin 262144) :
    v (ix2 i c) * w (ix2 i 0) = ((term v w c i.val : ℝ) : EReal) := by
  unfold term
  rw [dif_pos i.isLt, EReal.coe_mul, EReal.coe_toReal (H.vfin _).1 (H.vfin _).2, EReal.coe_toReal (H.wfin _).1 (H.wfin _).2]

section Launch

variable (m : (ℓ : Loc nD τ sig) → Buf (Elt Ideal) ℓ)

/-- The arguments at the launch. -/
abbrev va : S262144x3.Idx → EReal := m (vLoc d0)
abbrev wa : S262144x1.Idx → EReal := m (wLoc d0)
abbrev cua : S8193.Idx → BitVec 32 := m (cuLoc d0)

/-- The array of values holds sample `128 q + l` of component `c` at row `q` and lane `l`. -/
theorem values_apply (c : Fin 3) (q : Fin 2048) (l : Fin 128) :
    (Vb m main_v1 : S3x2048x128.Idx → EReal) (ix3 c q l) = va m (ix2 ⟨128 * q.val + l.val, by omega⟩ c) := by
  rw [Vb_v1]
  show shapeCast S3x2048x128 (transpose S3x262144 [1, 0] (va m) transposes_S262144x3_S3x262144_1_0) shapeCasts_S3x262144_S3x2048x128 (ix3 c q l) = va m _
  pointwise
  refine congrArg (va m) (congrArg (ix2 · c) (Fin.ext ?_))
  show q.val * 128 + l.val = 128 * q.val + l.val; omega

/-- The array of weights holds weight `128 q + l` at row `q` and lane `l`. -/
theorem weights_apply (q : Fin 2048) (l : Fin 128) :
    (Vb m main_v2 : S2048x128.Idx → EReal) (ix2 q l) = wa m (ix2 ⟨128 * q.val + l.val, by omega⟩ 0) := by
  rw [Vb_v2]
  show shapeCast S2048x128 (wa m) shapeCasts_S262144x1_S2048x128 (ix2 q l) = wa m _
  pointwise
  refine congrArg (wa m) (congrArg (ix2 · 0) (Fin.ext ?_))
  show q.val * 128 + l.val = 128 * q.val + l.val; omega

variable {m}
variable (H : Rays (va m) (wa m) (cua m))

include H

/-- The blocks' weighted values are the terms. -/
theorem all_weighted : AllWeighted (Vb m) (term (va m) (wa m)) := fun t c r l => by
  have ht : t.val < 8 := t.isLt
  have hq : 256 * t.val + r.val < 2048 := by omega
  rw [xAt_apply (Vb m) t c r l ⟨_, hq⟩ rfl, wAt_apply (Vb m) t r l ⟨_, hq⟩ rfl, values_apply, weights_apply, mul_eq_term H]
  refine congrArg (fun n => ((term (va m) (wa m) c n : ℝ) : EReal)) ?_
  show 128 * (256 * t.val + r.val) + l.val = 32768 * t.val + (128 * r.val + l.val); omega

/-- The flat array of running sums: entry `262144 c + i` is the sum of the first `i + 1` terms of component `c`. -/
theorem pre_apply (c : Fin 3) (i : ℕ) (hi : i < 262144) (k : ℕ) (hk : k = i + 262144 * c.val) :
    pre m (at1 786432 k) = ((upTo (va m) (wa m) c (i + 1) : ℝ) : EReal) := by
  have hk' : k < 786432 := by omega
  rw [pre_eq, cum_eq (all_weighted H), ← eq_at1 (by decide) (ix1 (⟨k, hk'⟩ : Fin 786432)) k rfl]
  pointwise [runningSums]
  have hc : (⟨k / 262144, by omega⟩ : Fin 3) = c := Fin.ext (by show k / 262144 = c.val; omega)
  refine congrArg _ ((congrArg₂ (upTo (va m) (wa m)) hc (?_ : 128 * (k / 128 % 2048) + k % 128 + 1 = i + 1)))
  omega

/-- A running sum before a bound, masked, is the sum of the terms before the bound. -/
theorem masked_apply (c : Fin 3) (b : BitVec 32) (hb : b.toNat ≤ 262144) :
    FloatOps.mulf (pre m (at1 786432 (idxW c b).toNat)) (mskW (F := Ideal) b) = ((upTo (va m) (wa m) c b.toNat : ℝ) : EReal) := by
  rw [pre_apply H c (b.toNat - 1) (by omega) _ (idxW_toNat c b hb)]
  have hm : mskW (F := Ideal) b = if b.toNat = 0 then (0 : EReal) else 1 := by
    have e : IntOp.cmpi .sgt b 0#32 = BitVec.ofBool (decide (b.toNat ≠ 0)) := by
      refine congrArg BitVec.ofBool (Bool.eq_iff_iff.2 ?_)
      rw [BitVec.slt_iff_toInt_lt, BitVec.toInt_eq_toNat_cond, BitVec.toInt_eq_toNat_cond, decide_eq_true_iff]
      simp only [BitVec.toNat_ofNat]; omega
    have e0 : (Scalar.ofBits .f32 0x00000000#32 : Ideal .f32) = (0 : EReal) := Ideal.ofBits_zero_f32
    have e1 : (Scalar.ofBits .f32 0x3F800000#32 : Ideal .f32) = (1 : EReal) := Ideal.ofBits_one_f32
    unfold mskW
    rw [e, e0, e1]
    by_cases h : b.toNat = 0
    · rw [if_pos h, decide_eq_false (not_not_intro h)]; rfl
    · rw [if_neg h, decide_eq_true h]; rfl
  rw [hm]
  show (_ : EReal) * _ = _
  split
  · rename_i h0; rw [h0, mul_zero]; rfl
  · rename_i h0; rw [mul_one, Nat.sub_add_cancel (by omega)]

/-- Row `r` of component `c` is the difference of the sums of the terms before the row's two bounds. -/
theorem segOut_apply (c : Fin 3) (r : Fin 8192) :
    segOut c (bnd m) (pre m) (ix1 r)
      = ((upTo (va m) (wa m) c (cua m (at1 8193 (r.val + 1))).toNat - upTo (va m) (wa m) c (cua m (at1 8193 r.val)).toNat : ℝ) : EReal) := by
  have hr : r.val < 8192 := r.isLt
  unfold segOut
  show FloatOps.subf (FloatOps.mulf (pre m (at1 786432 (idxW c (bnd m (at1 8464 (r.val + 1)))).toNat)) (mskW (bnd m (at1 8464 (r.val + 1)))))
    (FloatOps.mulf (pre m (at1 786432 (idxW c (bnd m (at1 8464 r.val))).toNat)) (mskW (bnd m (at1 8464 r.val)))) = _
  rw [ bnd_apply m _ (by omega), bnd_apply m _ (by omega), dif_pos (by omega), dif_pos (by omega),
    masked_apply H c _ (H.range _), masked_apply H c _ (H.range _), EReal.coe_sub]
  rfl

/-- The program's result at row `r` and component `c`. -/
theorem out_apply (c : Fin 3) (r : Fin 8192) :
    (Vf m main_v11 : S8192x3.Idx → EReal) (ix2 r c)
      = ((upTo (va m) (wa m) c (cua m (at1 8193 (r.val + 1))).toNat - upTo (va m) (wa m) c (cua m (at1 8193 r.val)).toNat : ℝ) : EReal) := by
  rw [Vf_v11]
  unfold stack3
  pointwise
  match c with
  | 0 => exact segOut_apply H 0 r
  | 1 => exact segOut_apply H 1 r
  | 2 => exact segOut_apply H 2 r

end Launch

end Cert.Proof.Seg

end
-- ==== Proof.RefValue.lean ====
/-
  The reference's result over the extended reals: each row adds up the terms between the ray's two bounds.
-/
module

public import proofs.«01_k».proof.Proof.Ref
public import proofs.«01_k».proof.Proof.KernelValue
public import Idealize.ShloMosaic.Lib.Routing.OpsPair

@[expose] public section

noncomputable section

namespace Cert.Proof.Ref

open Idealize.ShloMosaic
open Cert.ReferenceIdeal Cert.ReferenceIdeal.Gen
open Cert.Proof.Seg (at1 eq_at1 Rays term upTo mul_eq_term coe_sum toInt_small)

/-- Adding up bits as words counts the ones set. -/
theorem count_bits {ι : Type} (s : Finset ι) (p : ι → Bool) :
    Finset.fold IntOp.addi (0#32) (fun k => BitVec.setWidth 32 (BitVec.ofBool (p k))) s = BitVec.ofNat 32 (∑ k ∈ s, if p k then 1 else 0) := by
  classical
  induction s using Finset.induction_on with
  | empty => rfl
  | insert a s ha ih =>
    rw [Finset.fold_insert ha, Finset.sum_insert ha, ih, BitVec.ofNat_add]
    refine congrArg (· + _) ?_
    cases p a <;> rfl

/-- The ray of sample `i`: the number of rays ending at or before it. -/
theorem rayOf_apply (cu : S8193.Idx → BitVec 32) (hc : ∀ j, (cu j).toNat ≤ 262144) (i : Fin 262144) :
    rayOf cu (ix1 i) = BitVec.ofNat 32 (∑ k ∈ Finset.range 8192, if (cu (at1 8193 (k + 1))).toNat ≤ i.val then 1 else 0) := by
  pointwise [rayOf]
  refine (count_bits Finset.univ fun x : Fin 8192 => (cu (ix1 ⟨1 + x.val, by omega⟩)).sle (BitVec.ofNat 32 i.val)).trans (congrArg _ ?_)
  rw [← Fin.sum_univ_eq_sum_range (fun k => if (cu (at1 8193 (k + 1))).toNat ≤ i.val then 1 else 0) 8192]
  refine Finset.sum_congr rfl fun k _ => if_congr ?_ rfl rfl
  have e : (ix1 ⟨1 + k.val, by omega⟩ : S8193.Idx) = at1 8193 (k.val + 1) := eq_at1 (by decide) _ _ (Nat.add_comm 1 k.val)
  have hk := hc (at1 8193 (k.val + 1))
  rw [e, BitVec.sle_iff_toInt_le, BitVec.toInt_eq_toNat_cond, toInt_small i.val (by omega)]
  omega

/-- Of a sequence that starts at or below `i` and does not fall, the number of entries after the first that are at most
    `i` is `r` exactly when `i` lies from entry `r` on and before entry `r + 1`. -/
theorem count_eq_iff (a : ℕ → ℕ) (n : ℕ) (hm : ∀ k < n, a k ≤ a (k + 1)) (i : ℕ) (h0 : a 0 ≤ i) (r : ℕ) (hr : r < n) :
    (∑ k ∈ Finset.range n, if a (k + 1) ≤ i then 1 else 0) = r ↔ a r ≤ i ∧ i < a (r + 1) := by
  have mono : ∀ p q, p ≤ q → q ≤ n → a p ≤ a q := fun p q hpq => by
    induction q, hpq using Nat.le_induction with
    | base => exact fun _ => le_rfl
    | succ q _ ih => exact fun hq => (ih (by omega)).trans (hm q (by omega))
  rw [← Finset.sum_filter, Finset.sum_const, smul_eq_mul, mul_one]
  constructor
  · intro h
    refine ⟨?_, ?_⟩
    · by_contra hc
      have hr0 : r ≠ 0 := fun h0' => hc (h0' ▸ h0)
      have hs : (Finset.range n).filter (fun k => a (k + 1) ≤ i) ⊆ Finset.range (r - 1) := fun k hk => by
        obtain ⟨hk, hki⟩ := Finset.mem_filter.1 hk
        rw [Finset.mem_range] at hk ⊢
        by_contra hkr
        have := mono r (k + 1) (by omega) (by omega)
        omega
      have := Finset.card_le_card hs
      rw [Finset.card_range] at this
      omega
    · by_contra hc
      have hs : Finset.range (r + 1) ⊆ (Finset.range n).filter (fun k => a (k + 1) ≤ i) := fun k hk => by
        rw [Finset.mem_range] at hk
        have := mono (k + 1) (r + 1) (by omega) (by omega)
        exact Finset.mem_filter.2 ⟨Finset.mem_range.2 (by omega), by omega⟩
      have := Finset.card_le_card hs
      rw [Finset.card_range] at this
      omega
  · rintro ⟨h1, h2⟩
    have hs : (Finset.range n).filter (fun k => a (k + 1) ≤ i) = Finset.range r := Finset.ext fun k => by
      rw [Finset.mem_filter, Finset.mem_range, Finset.mem_range]
      constructor
      · rintro ⟨hk, hki⟩
        by_contra hkr
        have := mono (r + 1) (k + 1) (by omega) (by omega)
        omega
      · intro hk
        have := mono (k + 1) r (by omega) (by omega)
        exact ⟨by omega, by omega⟩
    rw [hs, Finset.card_range]

/-! ## Where the updates land -/

/-- The scatter: rows of three, each at the row its index names. -/
abbrev byRow : ScatterDims S8192x3 S262144x1 S262144x3 := scatter_S8192x3_S262144x1_S262144x3_1_0_0_1

theorem start_row (idx : IVec S262144x1 32) (i : Fin 262144) (c : Fin 3) : byRow.start (ix2 i c) idx 0 = (idx (ix2 i 0)).toInt := by
  unfold ScatterDims.start
  rw [dif_pos (by decide)]
  refine congrArg (fun y => (idx y).toInt) (funext fun b => ?_)
  match b with
  | 0 => rfl
  | 1 => rfl
theorem start_column (idx : IVec S262144x1 32) (i : Fin 262144) (c : Fin 3) : byRow.start (ix2 i c) idx 1 = 0 := by
  unfold ScatterDims.start
  rw [dif_neg (by decide)]
theorem window_row (i : Fin 262144) (c : Fin 3) : byRow.window (ix2 i c) 0 = 0 := rfl
theorem window_column (i : Fin 262144) (c : Fin 3) : byRow.window (ix2 i c) 1 = c.val := rfl

/-- The update of sample `i` and component `c'` lands at row `r` and component `c` when the sample's index is `r` and the
    components agree. -/
theorem lands_iff (idx : IVec S262144x1 32) (i : Fin 262144) (c' : Fin 3) (r : Fin 8192) (c : Fin 3) :
    byRow.resultIdx? (ix2 i c') idx = some (ix2 r c) ↔ (idx (ix2 i 0)).toInt = r.val ∧ c' = c := by
  rw [Routing.resultIdx?_eq_some]
  constructor
  · intro h
    have h0 := h 0
    have h1 := h 1
    rw [start_row, window_row] at h0
    rw [start_column, window_column] at h1
    refine ⟨(Int.add_zero _).symm.trans h0, Fin.ext (Int.ofNat_inj.1 ((Int.zero_add _).symm.trans h1))⟩
  · rintro ⟨h, rfl⟩ a
    match a with
    | 0 => rw [start_row, window_row]; exact (Int.add_zero _).trans h
    | 1 => rw [start_column, window_column]; exact Int.zero_add _

/-- An accumulating scatter into an array that is zero at `j` leaves there the sum of the updates that land at `j`. -/
theorem scatter_sum {s si u : Shape} (d : ScatterDims s si u) (x : s.Idx → EReal) (idx : IVec si 32) (upd : u.Idx → EReal) (j : s.Idx) (h : x j = 0) :
    (Host.scatterAdd (F := Ideal) (φ := .f32) d x idx upd j : EReal) = ∑ k : u.Idx, if d.resultIdx? k idx = some j then upd k else 0 := by
  show x j + ∑ k ∈ Finset.univ.filter (fun k => d.resultIdx? k idx = some j), upd k = _
  rw [h, zero_add, Finset.sum_filter]

/-- The same when the updates form a matrix: the sum over its rows of the sums along them. -/
theorem scatter_sum2 {s si : Shape} {n m : ℕ} (d : ScatterDims s si ⟨2, ![n, m]⟩) (x : s.Idx → EReal) (idx : IVec si 32) (upd : (⟨2, ![n, m]⟩ : Shape).Idx → EReal) (j : s.Idx) (h : x j = 0) :
    (Host.scatterAdd (F := Ideal) (φ := .f32) d x idx upd j : EReal)
      = ∑ i : Fin n, ∑ c : Fin m, if d.resultIdx? (ix2 i c) idx = some j then upd (ix2 i c) else 0 := by
  rw [scatter_sum d x idx upd j h, sum_idx2]

/-- The reference starts from zeros. -/
theorem zeros_apply (j : S8192x3.Idx) : (broadcastInDim S8192x3 ![] bcast_S_S8192x3 (constant (F := Ideal) S_ .f32 0x00000000#32) j : EReal) = 0 :=
  Ideal.ofBits_zero_f32

/-- The reference's result at row `r` and component `c`: the difference of the sums of the terms before the row's bounds. -/
theorem refOut_apply {v : S262144x3.Idx → EReal} {w : S262144x1.Idx → EReal} {cu : S8193.Idx → BitVec 32} (H : Rays v w cu) (r : Fin 8192) (c : Fin 3) :
    (refOut (F := Ideal) v w cu (ix2 r c) : EReal)
      = ((upTo v w c (cu (at1 8193 (r.val + 1))).toNat - upTo v w c (cu (at1 8193 r.val)).toNat : ℝ) : EReal) := by
  have hr : r.val < 8192 := r.isLt
  let a : ℕ → ℕ := fun k => (cu (at1 8193 k)).toNat
  have land : ∀ (i : Fin 262144) (c' : Fin 3),
      (byRow.resultIdx? (ix2 i c') (broadcastInDim S262144x1 ![0] bcast_S262144_S262144x1_0 (rayOf cu)) = some (ix2 r c)) ↔ (c' = c ∧ (a r.val ≤ i.val ∧ i.val < a (r.val + 1))) := fun i c' => by
    rw [lands_iff, and_comm, ← count_eq_iff a 8192 H.mono i.val (H.first.le.trans (Nat.zero_le _)) r.val hr]
    refine and_congr_right fun _ => ?_
    have e : broadcastInDim S262144x1 ![0] bcast_S262144_S262144x1_0 (rayOf cu) (ix2 i 0) = rayOf cu (ix1 i) := by pointwise
    rw [e, rayOf_apply cu H.range]
    have hle : (∑ k ∈ Finset.range 8192, if a (k + 1) ≤ i.val then 1 else 0) ≤ 8192 := by
      refine (Finset.sum_le_sum (g := fun _ => 1) fun k _ => ?_).trans (by simp)
      split <;> omega
    show (BitVec.ofNat 32 (∑ k ∈ Finset.range 8192, if a (k + 1) ≤ i.val then 1 else 0)).toInt = r.val ↔ _
    rw [toInt_small _ (by omega)]
    omega
  have term_at : ∀ i : Fin 262144, (weighted (F := Ideal) v w (ix2 i c) : EReal) = ((term v w c i.val : ℝ) : EReal) := fun i => by
    rw [← mul_eq_term H]
    pointwise [weighted]
  have ha : a r.val ≤ a (r.val + 1) := H.mono r.val hr
  have hN : a (r.val + 1) ≤ 262144 := H.range _
  have inner : ∀ i : Fin 262144, (∑ c' : Fin 3, if byRow.resultIdx? (ix2 i c') (broadcastInDim S262144x1 ![0] bcast_S262144_S262144x1_0 (rayOf cu)) = some (ix2 r c) then (weighted (F := Ideal) v w (ix2 i c') : EReal) else 0)
      = ((if a r.val ≤ i.val ∧ i.val < a (r.val + 1) then term v w c i.val else 0 : ℝ) : EReal) := fun i => by
    rw [Finset.sum_eq_single c]
    · rw [term_at]
      by_cases hi : a r.val ≤ i.val ∧ i.val < a (r.val + 1)
      · rw [if_pos ((land i c).2 ⟨rfl, hi⟩), if_pos hi]
      · rw [if_neg fun h => hi ((land i c).1 h).2, if_neg hi]; rfl
    · intro c' _ hc'; exact if_neg fun h => hc' ((land i c').1 h).1
    · intro h; exact absurd (Finset.mem_univ c) h
  refine (scatter_sum2 byRow _ _ _ _ (zeros_apply _)).trans ?_
  rw [Finset.sum_congr rfl fun i _ => inner i, coe_sum,
    Fin.sum_univ_eq_sum_range (fun i => if a r.val ≤ i ∧ i < a (r.val + 1) then term v w c i else 0) 262144, ← Finset.sum_filter]
  refine congrArg _ (Eq.trans (Finset.sum_congr (Finset.ext fun i => ?_) fun _ _ => rfl) (Finset.sum_Ico_eq_sub (term v w c) ha))
  rw [Finset.mem_filter, Finset.mem_range, Finset.mem_Ico]
  exact ⟨fun h => h.2, fun h => ⟨lt_of_lt_of_le h.2 hN, h⟩⟩

end Cert.Proof.Ref

end
-- ==== Proof.Equation.lean ====
/-
  The equation: over the extended reals the kernel's idealization and the reference end with the same result.
-/
module

public import proofs.«01_k».proof.Proof.FramesRays
public import proofs.«01_k».proof.Proof.RefValue

@[expose] public section

noncomputable section

namespace Cert.Proof.Seg

open Idealize.ShloMosaic Idealize.ShloMosaic.TcCoe Idealize.SL.Sem

/-- The two results are one array. -/
theorem results_agree (m : (ℓ : Loc Cert.KernelIdeal.nD Cert.KernelIdeal.τ Cert.KernelIdeal.sig) → Buf (Elt Ideal) ℓ) (H : Rays (va m) (wa m) (cua m)) :
    (Vf m Cert.KernelIdeal.main_v11 : Cert.KernelIdeal.S8192x3.Idx → EReal) = Ref.refOut (F := Ideal) (va m) (wa m) (cua m) := by
  funext y
  obtain ⟨r, c, rfl⟩ : ∃ (r : Fin 8192) (c : Fin 3), y = ix2 r c := ⟨y 0, y 1, eq_ix2 y⟩
  exact (out_apply H c r).trans (Ref.refOut_apply H r c).symm

/-- From the same arguments, the kernel's idealization and the reference both run, leave equal results and change no
    argument. -/
theorem equation : Cert.algebraic_KernelIdeal_ReferenceIdeal_pre_rays := fun m g m' g' hpre hargs => by
  have H : Rays (va m) (wa m) (cua m) := rays_of_pre (hpre d0)
  refine ⟨fun c => match c with | ⟨0, _⟩ => Vf m Cert.KernelIdeal.main_v11, ?_, ?_⟩
  · refine (θ_run (Cert.KernelIdeal.defs (F := Ideal)) _ _).mono (fun r h c => ?_) (run_main (F := Ideal) m g (bnd_le m H.range))
    match c with
    | ⟨0, _⟩ => exact ⟨h.1.2.2.2, h.1.1, h.1.2.1, h.1.2.2.1⟩
  · refine (θ_run Cert.ReferenceIdeal.defs _ _).mono (fun r h c => ?_) (Ref.run_main (F := Ideal) m' g')
    match c with
    | ⟨0, _⟩ =>
      obtain ⟨e0, e1, e2⟩ := hargs d0
      refine ⟨?_, (h d0 Cert.ReferenceIdeal.main_arg0).trans (Ref.arg0_eq _), (h d0 Cert.ReferenceIdeal.main_arg1).trans (Ref.arg1_eq _),
        (h d0 Cert.ReferenceIdeal.main_arg2).trans (Ref.arg2_eq _)⟩
      refine (h d0 Cert.ReferenceIdeal.main_v13).trans ((Ref.out_eq _).trans (Eq.trans ?_ (results_agree m H).symm))
      refine congr (congr (congrArg (Ref.refOut (F := Ideal)) ?_) ?_) ?_
      · exact e0
      · exact e1
      · exact e2

end Cert.Proof.Seg

end
-- ==== Proof.lean ====
/-
  The certificate's claims, put together.
-/
module

public import proofs.«01_k».proof.Defs
public import proofs.«01_k».proof.Proof.Frames
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_offsets_in_range.Gen.facts,
  Cert.Pre_rays.Gen.facts, Seg.frame_kernel, Seg.frame_ideal, Seg.frame_ideal_rays, Seg.frame_reference, Seg.frame_reference_rays, trivial, Seg.equation⟩

end Cert.Proof

end
